-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_in_table : Cert.Pre_in_table.Facts] (m : (ℓ : Loc Cert.Gather.nD Cert.Gather.τ Cert.Gather.sig) → Buf (Elt Bits) ℓ) : Prop :=
  ∀ c : Dev Cert.Gather.nD,
    (Cert.Pre_in_table.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_table : Cert.Pre_in_table.Facts] (m : (ℓ : Loc Cert.GatherIdeal.nD Cert.GatherIdeal.τ Cert.GatherIdeal.sig) → Buf (Elt Ideal) ℓ) : Prop :=
  ∀ c : Dev Cert.GatherIdeal.nD,
    (Cert.Pre_in_table.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_TakeIdeal (m : (ℓ : Loc Cert.TakeIdeal.nD Cert.TakeIdeal.τ Cert.TakeIdeal.sig) → Buf (Elt Ideal) ℓ) : Prop :=
  True

def Pre_TakeIdeal_in_table [hPre_in_table : Cert.Pre_in_table.Facts] (m : (ℓ : Loc Cert.TakeIdeal.nD Cert.TakeIdeal.τ Cert.TakeIdeal.sig) → Buf (Elt Ideal) ℓ) : Prop :=
  ∀ c : Dev Cert.TakeIdeal.nD,
    (Cert.Pre_in_table.fn (F := Ideal) (m ((c.tc : Thread Cert.TakeIdeal.nD Cert.TakeIdeal.τ).loc Cert.TakeIdeal.main_arg0)) (m ((c.tc : Thread Cert.TakeIdeal.nD Cert.TakeIdeal.τ).loc Cert.TakeIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gather [hGather : Cert.Gather.Facts] [hPre_in_table : Cert.Pre_in_table.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_table : Cert.Pre_in_table.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_TakeIdeal [hTakeIdeal : Cert.TakeIdeal.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0)

def quiescent_TakeIdeal_pre_in_table [hTakeIdeal : Cert.TakeIdeal.Facts] [hPre_in_table : Cert.Pre_in_table.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal_in_table m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gather_GatherIdeal : Prop :=
  True

def algebraic_GatherIdeal_TakeIdeal [hGatherIdeal : Cert.GatherIdeal.Facts] [hTakeIdeal : Cert.TakeIdeal.Facts] [hPre_in_table : Cert.Pre_in_table.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.TakeIdeal.nD Cert.TakeIdeal.τ Cert.TakeIdeal.sig) → Buf (Elt Ideal) ℓ) (g' : Dev Cert.TakeIdeal.nD → PrngReg), Pre_GatherIdeal m →
    (∀ c : Dev Cert.GatherIdeal.nD,
      m' ((c.tc : Thread Cert.TakeIdeal.nD Cert.TakeIdeal.τ).loc Cert.TakeIdeal.main_arg0) = m ((c.tc : Thread Cert.GatherIdeal.nD Cert.GatherIdeal.τ).loc Cert.GatherIdeal.main_arg0)
      ∧ m' ((c.tc : Thread Cert.TakeIdeal.nD Cert.TakeIdeal.τ).loc Cert.TakeIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.TakeIdeal.defs (F := Ideal)) (onTc (τ := Cert.TakeIdeal.τ) (Cert.TakeIdeal.main (F := Ideal))) ⟨m', fun _ => 0, g'⟩ (fun r => ∀ c : Dev Cert.TakeIdeal.nD,
          r.2.mem ((c.tc : Thread Cert.TakeIdeal.nD Cert.TakeIdeal.τ).loc Cert.TakeIdeal.main_v0) = v0 c
          ∧ r.2.mem ((c.tc : Thread Cert.TakeIdeal.nD Cert.TakeIdeal.τ).loc Cert.TakeIdeal.main_arg0) = m' ((c.tc : Thread Cert.TakeIdeal.nD Cert.TakeIdeal.τ).loc Cert.TakeIdeal.main_arg0)
          ∧ r.2.mem ((c.tc : Thread Cert.TakeIdeal.nD Cert.TakeIdeal.τ).loc Cert.TakeIdeal.main_arg1) = m' ((c.tc : Thread Cert.TakeIdeal.nD Cert.TakeIdeal.τ).loc Cert.TakeIdeal.main_arg1))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hTakeIdeal : Cert.TakeIdeal.Facts) (hPre_in_table : Cert.Pre_in_table.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather) (hPre_in_table := hPre_in_table)
    ∧ quiescent_GatherIdeal (hGatherIdeal := hGatherIdeal) (hPre_in_table := hPre_in_table)
    ∧ quiescent_TakeIdeal (hTakeIdeal := hTakeIdeal)
    ∧ quiescent_TakeIdeal_pre_in_table (hTakeIdeal := hTakeIdeal) (hPre_in_table := hPre_in_table)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_TakeIdeal (hGatherIdeal := hGatherIdeal) (hTakeIdeal := hTakeIdeal) (hPre_in_table := hPre_in_table)
-- ==== Pre_in_table.lean ====
abbrev S1024 : Shape := ⟨1, ![1024]⟩
abbrev S1000x128 : Shape := ⟨2, ![1000, 128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S1000x128 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 1000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x1024 : Shape := ⟨2, ![1024, 1024]⟩
abbrev S1024x256 : Shape := ⟨2, ![1024, 256]⟩
abbrev S1000x256 : Shape := ⟨2, ![1000, 256]⟩
abbrev S1000x128 : Shape := ⟨2, ![1000, 128]⟩
abbrev S1024x128 : Shape := ⟨2, ![1024, 128]⟩
abbrev S_ : Shape := ⟨0, ![]⟩
abbrev S8 : Shape := ⟨1, ![8]⟩
abbrev S1 : Shape := ⟨1, ![1]⟩
abbrev S128x1024 : Shape := ⟨2, ![128, 1024]⟩
abbrev S512x1024 : Shape := ⟨2, ![512, 1024]⟩
abbrev S512x256 : Shape := ⟨2, ![512, 256]⟩
abbrev S512x1000 : Shape := ⟨2, ![512, 1000]⟩
abbrev S512 : Shape := ⟨1, ![512]⟩
abbrev S512x1 : Shape := ⟨2, ![512, 1]⟩
abbrev S512x128 : Shape := ⟨2, ![512, 128]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1000x256, .f32⟩
  | .hbm, ⟨3, _⟩ => ⟨S1000x128, .f32⟩
  | .hbm, ⟨4, _⟩ => ⟨S1024x128, .f32⟩
  | .local _ .vmem, ⟨0, _⟩ => ⟨S1024x128, .f32⟩
  | .local _ .vmem, ⟨1, _⟩ => ⟨S1024x1024, .f32⟩
  | .local _ .vmem, ⟨2, _⟩ => ⟨S1024x256, .f32⟩
  | .local _ .vmem, ⟨3, _⟩ => ⟨S1000x256, .f32⟩
  | .local _ .vmem, ⟨4, _⟩ => ⟨S1000x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩
abbrev S1024x256 : Shape := ⟨2, ![1024, 256]⟩
abbrev S1000x256 : Shape := ⟨2, ![1000, 256]⟩
abbrev S1000x128 : Shape := ⟨2, ![1000, 128]⟩
abbrev S1024x1000 : Shape := ⟨2, ![1024, 1000]⟩
abbrev S_ : Shape := ⟨0, ![]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩

abbrev nBuf : Space → Nat
  | .hbm => 34
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1000x256, .f32⟩
  | .hbm, ⟨3, _⟩ => ⟨S1000x128, .f32⟩
  | .hbm, ⟨4, _⟩ => ⟨S1024x256, .f32⟩
  | .hbm, ⟨5, _⟩ => ⟨S1024x1000, .f32⟩
  | .hbm, ⟨6, _⟩ => ⟨S1024x1000, .i32⟩
  | .hbm, ⟨7, _⟩ => ⟨S_, .f32⟩
  | .hbm, ⟨8, _⟩ => ⟨S_, .i32⟩
  | .hbm, ⟨9, _⟩ => ⟨S1024, .f32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1, .i32⟩
  | .hbm, ⟨20, _⟩ => ⟨S_, .i32⟩
  | .hbm, ⟨21, _⟩ => ⟨S1024x1, .i32⟩
  | .hbm, ⟨22, _⟩ => ⟨S1024x1, .i1⟩
  | .hbm, ⟨23, _⟩ => ⟨S1x1, .i32⟩
  | .hbm, ⟨24, _⟩ => ⟨S1024x1, .i32⟩
  | .hbm, ⟨25, _⟩ => ⟨S1024x1, .i1⟩
  | .hbm, ⟨26, _⟩ => ⟨S1024x1, .i1⟩
  | .hbm, ⟨27, _⟩ => ⟨S_, .i1⟩
  | .hbm, ⟨28, _⟩ => ⟨S1024, .i1⟩
  | .hbm, ⟨29, _⟩ => ⟨S1024x128, .f32⟩
  | .hbm, ⟨30, _⟩ => ⟨S1024x128, .i1⟩
  | .hbm, ⟨31, _⟩ => ⟨S_, .f32⟩
  | .hbm, ⟨32, _⟩ => ⟨S1024x128, .f32⟩
  | .hbm, ⟨33, _⟩ => ⟨S1024x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_c : Ref sig .tc := ⟨.hbm, 8, rfl⟩
abbrev main_call0_v1_0 : Ref sig .tc := ⟨.hbm, 9, rfl⟩
abbrev main_v2 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_call1_cst : Ref sig .tc := ⟨.hbm, 31, rfl⟩
abbrev main_call1_v15 : Ref sig .tc := ⟨.hbm, 32, rfl⟩
abbrev main_v3 : Ref sig .tc := ⟨.hbm, 33, rfl⟩

abbrev nD : Nat := 1
abbrev τ : Topo := Topo.v7x

variable {F : FTy → Type} [FloatOps F]
-- ==== Gather.lean ====
abbrev S1024 : Shape := ⟨1, ![1024]⟩
abbrev S1000x128 : Shape := ⟨2, ![1000, 128]⟩
abbrev S1024x128 : Shape := ⟨2, ![1024, 128]⟩
abbrev S32 : Shape := ⟨1, ![32]⟩
abbrev S32x128 : Shape := ⟨2, ![32, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S1024, .i32⟩
  | .hbm, ⟨1, _⟩ => ⟨S1000x128, .f32⟩
  | .hbm, ⟨2, _⟩ => ⟨S1024x128, .f32⟩
  | .local .scVector .vmem, ⟨0, _⟩ => ⟨S32, .i32⟩
  | .local .scVector .vmem, ⟨1, _⟩ => ⟨S32x128, .f32⟩
  | _, _ => ⟨S1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== TakeIdeal.lean ====
abbrev S1024 : Shape := ⟨1, ![1024]⟩
abbrev S1000x128 : Shape := ⟨2, ![1000, 128]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩

abbrev nBuf : Space → Nat
  | .hbm => 25
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1000x128, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1, .i32⟩
  | .hbm, ⟨11, _⟩ => ⟨S_, .i32⟩
  | .hbm, ⟨12, _⟩ => ⟨S1024x1, .i32⟩
  | .hbm, ⟨13, _⟩ => ⟨S1024x1, .i1⟩
  | .hbm, ⟨14, _⟩ => ⟨S1x1, .i32⟩
  | .hbm, ⟨15, _⟩ => ⟨S1024x1, .i32⟩
  | .hbm, ⟨16, _⟩ => ⟨S1024x1, .i1⟩
  | .hbm, ⟨17, _⟩ => ⟨S1024x1, .i1⟩
  | .hbm, ⟨18, _⟩ => ⟨S_, .i1⟩
  | .hbm, ⟨19, _⟩ => ⟨S1024, .i1⟩
  | .hbm, ⟨20, _⟩ => ⟨S1024x128, .f32⟩
  | .hbm, ⟨21, _⟩ => ⟨S1024x128, .i1⟩
  | .hbm, ⟨22, _⟩ => ⟨S_, .f32⟩
  | .hbm, ⟨23, _⟩ => ⟨S1024x128, .f32⟩
  | .hbm, ⟨24, _⟩ => ⟨S1024x128, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.FirstMax.lean ====
/-
  The first maximum of a row of extended reals, and the two ways in which the programs find it:
  the kernel by two reductions and a one-hot product, the reference by one fold over (value, column) pairs.
  Nothing here names a program.
-/
module

public import Idealize.ShloMosaic.PureOps.Ideal.Laws
public import Idealize.ShloMosaic.Lib.Pointwise

@[expose] public section

noncomputable section

namespace Cert.FirstMax

open Idealize.ShloMosaic

/-- Column `n` is the FIRST MAXIMUM of the row `f`: no column exceeds it, and every column that equals it is at `n` or after. -/
def IsFirstMax {N : Nat} (f : Fin N → EReal) (n : Fin N) : Prop :=
  (∀ k, f k ≤ f n) ∧ ∀ k, f k = f n → n ≤ k

/-- A row with at least one column has a first maximum. -/
theorem exists_isFirstMax {N : Nat} (hN : 0 < N) (f : Fin N → EReal) : ∃ n, IsFirstMax f n := by
  haveI : Nonempty (Fin N) := ⟨⟨0, hN⟩⟩
  obtain ⟨p, hp⟩ := Finite.exists_max f
  have hs : (Finset.univ.filter fun k => f k = f p).Nonempty := ⟨p, Finset.mem_filter.2 ⟨Finset.mem_univ _, rfl⟩⟩
  have hn := (Finset.mem_filter.1 (Finset.min'_mem _ hs)).2
  refine ⟨Finset.min' _ hs, fun k => hn.symm ▸ hp k, fun k hk => Finset.min'_le _ _ ?_⟩
  exact Finset.mem_filter.2 ⟨Finset.mem_univ _, hk.trans hn⟩

/-! ## The kernel's way: row maximum, least candidate column, one-hot product -/

/-- The maximum of a row, taken from `⊥` up, is the value at its first maximum. -/
theorem fold_max {N : Nat} {f : Fin N → EReal} {n : Fin N} (h : IsFirstMax f n) : Finset.univ.fold max ⊥ f = f n :=
  le_antisymm (Finset.fold_max_le _ |>.2 ⟨bot_le, fun k _ => h.1 k⟩) (Finset.le_fold_max _ |>.2 (Or.inr ⟨n, Finset.mem_univ _, le_rfl⟩))

/-- The least of the candidates, the column's number at a maximum and a larger bound elsewhere, is the first maximum's number. -/
theorem fold_min {N : Nat} {f : Fin N → EReal} {n : Fin N} (h : IsFirstMax f n) (B : ℝ) (hB : ((n.val : ℕ) : ℝ) ≤ B) :
    Finset.univ.fold min ⊤ (fun k : Fin N => if f k = f n then (((k.val : ℕ) : ℝ) : EReal) else (B : EReal)) = (((n.val : ℕ) : ℝ) : EReal) := by
  refine le_antisymm (Finset.fold_min_le _ |>.2 (Or.inr ⟨n, Finset.mem_univ _, by rw [if_pos rfl]⟩)) (Finset.le_fold_min _ |>.2 ⟨le_top, fun k _ => ?_⟩)
  split
  · next hk => exact EReal.coe_le_coe_iff.2 (Nat.cast_le.2 (h.2 k hk))
  · exact EReal.coe_le_coe_iff.2 hB

/-- A sum whose coefficients are one at column `n` and zero elsewhere is the term at `n`, at infinite terms too. -/
theorem sum_oneHot {N : Nat} (n : Fin N) (c g : Fin N → EReal) (hc : ∀ k, c k = if k = n then 1 else 0) : ∑ k, c k * g k = g n := by
  rw [Finset.sum_eq_single n]
  · rw [hc, if_pos rfl, one_mul]
  · intro k _ hk; rw [hc, if_neg hk, zero_mul]
  · intro hn; exact (hn (Finset.mem_univ _)).elim

/-- A small column number as a 32-bit word, converted to a float, is that number. -/
theorem sitofp_ofNat (k : Nat) (hk : k < 2 ^ 31) : FloatOps.sitofp (F := Ideal) .f32 (BitVec.ofNat 32 k) = (((k : ℕ) : ℝ) : EReal) := by
  show (((BitVec.ofNat 32 k).toInt : ℝ) : EReal) = _
  have e : (BitVec.ofNat 32 k).toInt = (k : Int) := by
    rw [BitVec.toInt_eq_toNat_of_lt] <;> rw [BitVec.toNat_ofNat] <;> omega
  rw [e, Int.cast_natCast]

/-- A comparison's outcome, widened to a word and converted to a float, is one where it holds and zero where it fails. -/
theorem sitofp_ofBool (p : Prop) [Decidable p] :
    FloatOps.sitofp (F := Ideal) .f32 (BitVec.setWidth 32 (BitVec.ofBool (decide p))) = if p then 1 else 0 := by
  show (((BitVec.setWidth 32 (BitVec.ofBool (decide p))).toInt : ℝ) : EReal) = _
  by_cases h : p
  · rw [if_pos h, decide_eq_true h]
    simp
  · rw [if_neg h, decide_eq_false h]
    simp

/-- The float pattern of minus infinity is `⊥`. -/
theorem ofBits_negInf : Ideal.ofBits .f32 4286578688#32 = ⊥ := by simp [Ideal.ofBits, Ideal.ieee]

/-- The float pattern of plus infinity is `⊤`. -/
theorem ofBits_posInf : Ideal.ofBits .f32 2139095040#32 = ⊤ := by simp [Ideal.ofBits, Ideal.ieee]

/-- The float pattern of the kernel's bound is 1024. -/
theorem ofBits_1024 : Ideal.ofBits .f32 1149239296#32 = ((1024 : ℝ) : EReal) := by
  simp [Ideal.ofBits, Ideal.ieee]
  rw [← EReal.coe_mul]
  norm_num

/-- What the kernel computes of one row of similarities `f` and one column of the table `g`: the entry of `g` at the first maximum of `f`. -/
theorem oneHot_row {N : Nat} (hN : N ≤ 1024) {f : Fin N → EReal} {n : Fin N} (h : IsFirstMax f n) (g : Fin N → EReal) :
    ∑ k : Fin N, FloatOps.sitofp (F := Ideal) .f32 (BitVec.setWidth 32 (BitVec.ofBool (decide
        (FloatOps.sitofp (F := Ideal) .f32 (BitVec.ofNat 32 k.val)
          = Finset.univ.fold min (Ideal.ofBits .f32 2139095040#32)
              (fun q : Fin N => if f q = Finset.univ.fold max (Ideal.ofBits .f32 4286578688#32) f
                then FloatOps.sitofp (F := Ideal) .f32 (BitVec.ofNat 32 q.val) else Ideal.ofBits .f32 1149239296#32))))) * g k = g n := by
  have small : ∀ k : Fin N, k.val < 2 ^ 31 := fun k => by have := k.isLt; omega
  have hn : ((n.val : ℕ) : ℝ) ≤ 1024 := by
    have : n.val ≤ 1024 := by have := n.isLt; omega
    exact_mod_cast this
  refine sum_oneHot n _ g fun k => ?_
  rw [sitofp_ofBool, ofBits_negInf, ofBits_posInf, ofBits_1024, fold_max h, sitofp_ofNat k.val (small k)]
  have e : (fun q : Fin N => if f q = f n then FloatOps.sitofp (F := Ideal) .f32 (BitVec.ofNat 32 q.val) else ((1024 : ℝ) : EReal))
      = fun q : Fin N => if f q = f n then (((q.val : ℕ) : ℝ) : EReal) else ((1024 : ℝ) : EReal) :=
    funext fun q => by rw [sitofp_ofNat q.val (small q)]
  rw [e, fold_min h 1024 hn]
  refine if_congr ?_ rfl rfl
  rw [EReal.coe_eq_coe_iff, Nat.cast_inj, Fin.ext_iff]

/-! ## The reference's way: one fold over (value, column) pairs -/

/-- The reference's step on two (value, column) pairs: keep the greater value, and of equal values the smaller column. -/
def step (a b : EReal × BitVec 32) : EReal × BitVec 32 :=
  (if b.1 < a.1 then a.1 else b.1, if b.1 < a.1 ∨ (a.1 = b.1 ∧ a.2.toInt < b.2.toInt) then a.2 else b.2)

/-- The pair of column `k`: its value and its number as a word. -/
def pair {N : Nat} (f : Fin N → EReal) (k : Fin N) : EReal × BitVec 32 := (f k, BitVec.ofNat 32 k.val)

/-- The word of a column's number, read signed, is the number. -/
theorem toInt_col {N : Nat} (hN : N ≤ 1024) (k : Fin N) : (BitVec.ofNat 32 k.val).toInt = (k.val : Int) := by
  have := k.isLt
  rw [BitVec.toInt_eq_toNat_of_lt] <;> rw [BitVec.toNat_ofNat] <;> omega

/-- A step keeps a greater value. -/
theorem step_of_lt {a b : EReal × BitVec 32} (h : b.1 < a.1) : step a b = a := by
  unfold step; rw [if_pos h, if_pos (Or.inl h)]

/-- A step keeps an equal value at a smaller column. -/
theorem step_of_eq {a b : EReal × BitVec 32} (h : a.1 = b.1) (h2 : a.2.toInt < b.2.toInt) : step a b = a := by
  unfold step; rw [if_pos (Or.inr ⟨h, h2⟩), ← h, ite_self]

/-- A step takes the new pair when neither holds. -/
theorem step_of_not {a b : EReal × BitVec 32} (h : ¬ b.1 < a.1) (h2 : ¬ (a.1 = b.1 ∧ a.2.toInt < b.2.toInt)) : step a b = b := by
  unfold step; rw [if_neg h, if_neg (not_or.2 ⟨h, h2⟩)]

/-- A step ends with one of its two pairs. -/
theorem step_mem (a b : EReal × BitVec 32) : step a b = a ∨ step a b = b := by
  by_cases h : b.1 < a.1
  · exact Or.inl (step_of_lt h)
  · by_cases h2 : a.1 = b.1 ∧ a.2.toInt < b.2.toInt
    · exact Or.inl (step_of_eq h2.1 h2.2)
    · exact Or.inr (step_of_not h h2)

/-- Once the first maximum's pair is held, a step by any column keeps it. -/
theorem step_keep {N : Nat} (hN : N ≤ 1024) {f : Fin N → EReal} {n : Fin N} (h : IsFirstMax f n) (k : Fin N) :
    step (pair f n) (pair f k) = pair f n := by
  rcases lt_or_eq_of_le (h.1 k) with hlt | heq
  · exact step_of_lt hlt
  · rcases eq_or_lt_of_le (h.2 k heq) with hk | hk
    · rw [← hk]; exact (step_mem _ _).elim id id
    · refine step_of_eq heq.symm ?_
      show (BitVec.ofNat 32 n.val).toInt < (BitVec.ofNat 32 k.val).toInt
      rw [toInt_col hN, toInt_col hN]
      exact Int.ofNat_lt.2 hk

/-- What holds of the pair carried before the first maximum is met: its value is no greater, and if equal its column is no smaller. -/
def Before {N : Nat} (f : Fin N → EReal) (n : Fin N) (a : EReal × BitVec 32) : Prop :=
  a.1 ≤ f n ∧ (a.1 = f n → (n.val : Int) ≤ a.2.toInt)

/-- A step by any column keeps what holds before the first maximum. -/
theorem step_before {N : Nat} (hN : N ≤ 1024) {f : Fin N → EReal} {n : Fin N} (h : IsFirstMax f n) {a : EReal × BitVec 32}
    (ha : Before f n a) (k : Fin N) : Before f n (step a (pair f k)) := by
  rcases step_mem a (pair f k) with e | e
  · rw [e]; exact ha
  · rw [e]
    refine ⟨h.1 k, fun e => ?_⟩
    show (n.val : Int) ≤ (BitVec.ofNat 32 k.val).toInt
    rw [toInt_col hN]
    exact Int.ofNat_le.2 (h.2 k e)

/-- The step by the first maximum's own column ends with its pair. -/
theorem step_meet {N : Nat} (hN : N ≤ 1024) {f : Fin N → EReal} {n : Fin N} {a : EReal × BitVec 32}
    (ha : Before f n a) : step a (pair f n) = pair f n := by
  refine step_of_not (not_lt.2 ha.1) fun hc => ?_
  have h1 := ha.2 hc.1
  have h2 : a.2.toInt < (BitVec.ofNat 32 n.val).toInt := hc.2
  rw [toInt_col hN] at h2
  omega

/-- From the first maximum's pair, a fold over columns ends with it. -/
theorem foldl_keep {N : Nat} (hN : N ≤ 1024) {f : Fin N → EReal} {n : Fin N} (h : IsFirstMax f n) :
    ∀ l : List (EReal × BitVec 32), (∀ b ∈ l, ∃ k, b = pair f k) → l.foldl step (pair f n) = pair f n
  | [], _ => rfl
  | b :: l, hl => by
    obtain ⟨k, rfl⟩ := hl b (List.mem_cons_self ..)
    rw [List.foldl_cons, step_keep hN h k]
    exact foldl_keep hN h l fun b hb => hl b (List.mem_cons_of_mem _ hb)

/-- A fold over columns, the first maximum's among them, ends with the first maximum's pair. -/
theorem foldl_meet {N : Nat} (hN : N ≤ 1024) {f : Fin N → EReal} {n : Fin N} (h : IsFirstMax f n) :
    ∀ (l : List (EReal × BitVec 32)) (a : EReal × BitVec 32), Before f n a → (∀ b ∈ l, ∃ k, b = pair f k) → pair f n ∈ l →
      l.foldl step a = pair f n
  | [], _, _, _, hm => absurd hm List.not_mem_nil
  | b :: l, a, ha, hl, hm => by
    have hl' : ∀ b ∈ l, ∃ k, b = pair f k := fun b hb => hl b (List.mem_cons_of_mem _ hb)
    rw [List.foldl_cons]
    rcases List.mem_cons.1 hm with hb | hm'
    · rw [← hb, step_meet hN ha]
      exact foldl_keep hN h l hl'
    · obtain ⟨k, rfl⟩ := hl b (List.mem_cons_self ..)
      exact foldl_meet hN h l _ (step_before hN h ha k) hl' hm'

/-- The reference's initial pair, minus infinity at column zero, may stand before the first maximum. -/
theorem before_init {N : Nat} {f : Fin N → EReal} {n : Fin N} (h : IsFirstMax f n) : Before f n (⊥, 0#32) := by
  refine ⟨bot_le, fun e => ?_⟩
  have hb : (⊥ : EReal) = f n := e
  have h0 : n ≤ ⟨0, Nat.lt_of_le_of_lt (Nat.zero_le _) n.isLt⟩ :=
    h.2 _ (le_antisymm (h.1 _) (hb ▸ bot_le))
  have h1 : n.val ≤ 0 := h0
  have h2 : ((0#32 : BitVec 32)).toInt = 0 := by decide
  show (n.val : Int) ≤ (0#32 : BitVec 32).toInt
  omega

end Cert.FirstMax

end
-- ==== Proof.Blocks.lean ====
/-
  What the kernel leaves in its result array: its two halves, each the printed payload over the rows it copied in.
-/
module

public import proofs.«01_k».proof.Proof.FirstMax
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- A buffer written with blocks of one array, which cover it, holds that array. -/
theorem canon_of_blocks {Val : EltTy → Type} [∀ e, Nonempty (Val e)] {s : Shape} {e : EltTy} (G : s.Idx → Val e)
    (L : List (View.Piece Val s e)) (h : View.PiecesOf G L) (hc : ∀ y, ∃ p ∈ L, y ∈ p.1.set) (y : s.Idx) : View.canon L y = G y := by
  have e := View.canon_append_of_piecesOf G [] L h y (hc y)
  rwa [List.append_nil] at e

/-- A load from a buffer written with blocks of one array, which cover it, reads that array. -/
theorem readCov_of_blocks {Val : EltTy → Type} [∀ e, Nonempty (Val e)] {sg : RefSig} {κ : Kind} {sp : Space} {s : Shape} {e : EltTy}
    (v : View sg κ sp s e) (G : s.Idx → Val e) (L : List (View.Piece Val s e)) (h : View.PiecesOf G L)
    (hc : ∀ y, ∃ p ∈ L, y ∈ p.1.set) (B : LoadRect s) : v.readCov L B = fun j => G (B.idx j) := by
  rw [View.readCov_eq_canon']
  exact funext fun j => canon_of_blocks G L h hc (B.idx j)

/-- A load from a buffer that one transfer filled reads what the transfer brought. -/
theorem readCov_filled {Val : EltTy → Type} [∀ e, Nonempty (Val e)] {sg : RefSig} {κ : Kind} {sp : Space} {s : Shape} {e : EltTy}
    (v : View sg κ sp s e) (G : s.Idx → Val e) (B : LoadRect s) : v.readCov [⟨Rect.whole s, G⟩] B = fun j => G (B.idx j) := by
  refine readCov_of_blocks v G [⟨Rect.whole s, G⟩] ⟨fun x => congrArg G ?_, trivial⟩ (fun y => ⟨_, List.mem_singleton.2 rfl, ?_⟩) B
  · exact (Rect.emb_whole_apply s x).symm
  · rw [Rect.set_whole]; exact Finset.mem_univ y

/-- The states' scratch, filled by eight transfers of 128 rows each: a load reads the states. -/
theorem readCov_states (X : (View.whole main_arg0 : View sig .tc .hbm S1024x1024 .f32).ty.Contents (Elt Ideal)) (B : LoadRect S1024x1024) :
    (View.whole cc0_scratch0 : View sig .tc .vmem S1024x1024 .f32).readCov (Val := Elt Ideal) [
      ⟨Rect.unit ![896, 0] ![128, 1024] inb_S1024x1024_S128x1024_896_0, ReadAs.same.apply (View.read (Elt Ideal) ((View.whole main_arg0).slice (Rect.unit ![896, 0] ![128, 1024] inb_S1024x1024_S128x1024_896_0)) X)⟩,
      ⟨Rect.unit ![768, 0] ![128, 1024] inb_S1024x1024_S128x1024_768_0, ReadAs.same.apply (View.read (Elt Ideal) ((View.whole main_arg0).slice (Rect.unit ![768, 0] ![128, 1024] inb_S1024x1024_S128x1024_768_0)) X)⟩,
      ⟨Rect.unit ![640, 0] ![128, 1024] inb_S1024x1024_S128x1024_640_0, ReadAs.same.apply (View.read (Elt Ideal) ((View.whole main_arg0).slice (Rect.unit ![640, 0] ![128, 1024] inb_S1024x1024_S128x1024_640_0)) X)⟩,
      ⟨Rect.unit ![512, 0] ![128, 1024] inb_S1024x1024_S128x1024_512_0, ReadAs.same.apply (View.read (Elt Ideal) ((View.whole main_arg0).slice (Rect.unit ![512, 0] ![128, 1024] inb_S1024x1024_S128x1024_512_0)) X)⟩,
      ⟨Rect.unit ![384, 0] ![128, 1024] inb_S1024x1024_S128x1024_384_0, ReadAs.same.apply (View.read (Elt Ideal) ((View.whole main_arg0).slice (Rect.unit ![384, 0] ![128, 1024] inb_S1024x1024_S128x1024_384_0)) X)⟩,
      ⟨Rect.unit ![256, 0] ![128, 1024] inb_S1024x1024_S128x1024_256_0, ReadAs.same.apply (View.read (Elt Ideal) ((View.whole main_arg0).slice (Rect.unit ![256, 0] ![128, 1024] inb_S1024x1024_S128x1024_256_0)) X)⟩,
      ⟨Rect.unit ![128, 0] ![128, 1024] inb_S1024x1024_S128x1024_128_0, ReadAs.same.apply (View.read (Elt Ideal) ((View.whole main_arg0).slice (Rect.unit ![128, 0] ![128, 1024] inb_S1024x1024_S128x1024_128_0)) X)⟩,
      ⟨Rect.unit ![0, 0] ![128, 1024] inb_S1024x1024_S128x1024_0_0, ReadAs.same.apply (View.read (Elt Ideal) ((View.whole main_arg0).slice (Rect.unit ![0, 0] ![128, 1024] inb_S1024x1024_S128x1024_0_0)) X)⟩] B
      = fun j => (X : FVec Ideal S1024x1024 .f32) (B.idx j) := by
  refine readCov_of_blocks _ (X : FVec Ideal S1024x1024 .f32) _ ?_ ?_ B
  · exact ⟨fun x => rfl, fun x => rfl, fun x => rfl, fun x => rfl, fun x => rfl, fun x => rfl, fun x => rfl, fun x => rfl, trivial⟩
  · exact View.cover_of_tiledL _ S128x1024.size (by sl_kernel_rfl)

/-- The rows of the states from row `o` on, 512 of them. -/
def half (X : FVec Ideal S1024x1024 .f32) (o : Nat) (ho : o + 512 ≤ 1024) : FVec Ideal S512x1024 .f32 :=
  fun y => X (ix2 (⟨o + (y 0).val, by have := (y 0).isLt; have e : S512x1024.size 0 = 512 := rfl; omega⟩ : Fin 1024) (y 1))

/-- The lower half's load of the states is their first 512 rows. -/
theorem idx_low (X : FVec Ideal S1024x1024 .f32) :
    (fun j => X ((Rect.unit (s := S1024x1024) ![0, 0] ![512, 1024] inb_S1024x1024_S512x1024_0_0).toLoadRect.idx j)) = half X 0 (by omega) := by
  funext j
  refine congrArg X (funext fun a => Fin.ext ?_)
  match a with
  | ⟨0, _⟩ => show 0 + 1 * (j 0).val = 0 + (j 0).val; omega
  | ⟨1, _⟩ => show 0 + 1 * (j 1).val = (j 1).val; omega

/-- The upper half's load of the states is their last 512 rows. -/
theorem idx_high (X : FVec Ideal S1024x1024 .f32) :
    (fun j => X ((Rect.unit (s := S1024x1024) ![512, 0] ![512, 1024] inb_S1024x1024_S512x1024_512_0).toLoadRect.idx j)) = half X 512 (by omega) := by
  funext j
  refine congrArg X (funext fun a => Fin.ext ?_)
  match a with
  | ⟨0, _⟩ => show 512 + 1 * (j 0).val = 512 + (j 0).val; omega
  | ⟨1, _⟩ => show 0 + 1 * (j 1).val = (j 1).val; omega

/-- The load of the whole projection is the projection. -/
theorem idx_proj (X : FVec Ideal S1024x256 .f32) :
    (fun j => X ((Rect.unit (s := S1024x256) ![0, 0] ![1024, 256] inb_S1024x256_S1024x256_0_0).toLoadRect.idx j)) = X := by
  funext j
  refine congrArg X (funext fun a => Fin.ext ?_)
  match a with
  | ⟨0, _⟩ => show 0 + 1 * (j 0).val = (j 0).val; omega
  | ⟨1, _⟩ => show 0 + 1 * (j 1).val = (j 1).val; omega

/-- The load of all memories is the memories. -/
theorem idx_mems (X : FVec Ideal S1000x256 .f32) :
    (fun j => X ((Rect.unit (s := S1000x256) ![0, 0] ![1000, 256] inb_S1000x256_S1000x256_0_0).toLoadRect.idx j)) = X := by
  funext j
  refine congrArg X (funext fun a => Fin.ext ?_)
  match a with
  | ⟨0, _⟩ => show 0 + 1 * (j 0).val = (j 0).val; omega
  | ⟨1, _⟩ => show 0 + 1 * (j 1).val = (j 1).val; omega

/-- The load of the whole table is the table. -/
theorem idx_table (X : FVec Ideal S1000x128 .f32) :
    (fun j => X ((Rect.unit (s := S1000x128) ![0, 0] ![1000, 128] inb_S1000x128_S1000x128_0_0).toLoadRect.idx j)) = X := by
  funext j
  refine congrArg X (funext fun a => Fin.ext ?_)
  match a with
  | ⟨0, _⟩ => show 0 + 1 * (j 0).val = (j 0).val; omega
  | ⟨1, _⟩ => show 0 + 1 * (j 1).val = (j 1).val; omega

/-- The lower half's payload, of equal operands. -/
theorem low_congr {X X' : Vec Ideal S512x1024 .f32} {R R' : Vec Ideal S1024x256 .f32} {M M' : Vec Ideal S1000x256 .f32} {T T' : Vec Ideal S1000x128 .f32}
    (hX : X = X') (hR : R = R') (hM : M = M') (hT : T = T') (x : S512x128.Idx) : k0_pay2 X R M T x = k0_pay2 X' R' M' T' x := by
  subst hX hR hM hT; rfl

/-- The upper half's payload, of equal operands. -/
theorem high_congr {X X' : Vec Ideal S512x1024 .f32} {R R' : Vec Ideal S1024x256 .f32} {M M' : Vec Ideal S1000x256 .f32} {T T' : Vec Ideal S1000x128 .f32}
    (hX : X = X') (hR : R = R') (hM : M = M') (hT : T = T') (x : S512x128.Idx) :
    k0_pay1 (k0_pay3 X R M) T x = k0_pay1 (k0_pay3 X' R' M') T' x := by
  subst hX hR hM hT; rfl

/-- The result array after the run: whatever `G` agrees with the two halves' payloads. -/
theorem final (c : Dev nD) (G : FVec Ideal S1024x128 .f32)
    (h0 : ∀ x : S512x128.Idx, k0_pay2 (half (m ((c : Thread nD τ).loc main_arg0)) 0 (by omega)) (m ((c : Thread nD τ).loc main_arg1)) (m ((c : Thread nD τ).loc main_arg2))
       (m ((c : Thread nD τ).loc main_arg3)) x = G ((Rect.unit (s := S1024x128) ![0, 0] ![512, 128] inb_S1024x128_S512x128_0_0).emb x))
    (h1 : ∀ x : S512x128.Idx, k0_pay1 (k0_pay3 (half (m ((c : Thread nD τ).loc main_arg0)) 512 (by omega)) (m ((c : Thread nD τ).loc main_arg1)) (m ((c : Thread nD τ).loc main_arg2)))
       (m ((c : Thread nD τ).loc main_arg3)) x = G ((Rect.unit (s := S1024x128) ![512, 0] ![512, 128] inb_S1024x128_S512x128_512_0).emb x))
    : (dats m 0 c).arrAt 0 (cfgs 0).N = G := by
  refine (dats m 0 c).arrAt_eq_of_after_last 0 t0_0 (by decide +kernel) _ fun j => ?_
  blk_simp
  rw [after0_0]
  unfold outsAt0
  frame_out
  refine canon_of_blocks (Val := Elt Ideal) (s := S1024x128) (e := .f32) G _ ?_ (View.cover_of_tiledL _ S512x128.size (by sl_kernel_rfl)) j
  refine ⟨fun x => ?_, fun x => ?_, trivial⟩
  · exact (high_congr ((readCov_states _ _).trans (idx_high _)) ((readCov_filled _ _ _).trans (idx_proj _))
      ((readCov_filled _ _ _).trans (idx_mems _)) ((readCov_filled _ _ _).trans (idx_table _)) x).trans (h1 x)
  · exact (low_congr ((readCov_states _ _).trans (idx_low _)) ((readCov_filled _ _ _).trans (idx_proj _))
      ((readCov_filled _ _ _).trans (idx_mems _)) ((readCov_filled _ _ _).trans (idx_table _)) x).trans (h0 x)

end Cert.KernelIdeal.Value

end
-- ==== Proof.KernelRow.lean ====
/-
  The two stored payloads of the kernel read at an index: the table's row at the first maximum of the row of similarities.
-/
module

public import proofs.«01_k».proof.Proof.FirstMax
public import proofs.«01_k».proof.Proof.Gen.KernelIdeal.Value
public import Idealize.ShloMosaic.Lib.Pointwise

@[expose] public section

set_option maxRecDepth 16384

noncomputable section

namespace Cert.KernelIdeal.Value

open Cert.KernelIdeal Cert.KernelIdeal.Gen Cert.FirstMax
open Idealize.ShloMosaic Idealize.ShloMosaic.TcCoe Idealize.SL.Sem

/-- The similarity of row `r` of 512 states with memory `k`: the projected state against the memory. -/
def sim (X : Vec Ideal S512x1024 .f32) (R : Vec Ideal S1024x256 .f32) (M : Vec Ideal S1000x256 .f32) (r : Fin 512) (k : Fin 1000) : EReal :=
  ∑ p : Fin 256, (∑ d : Fin 1024, X (ix2 r d) * R (ix2 d p)) * M (ix2 k p)

/-- The lower half's payload: row `r` is the table's row at the first maximum of the similarities. -/
theorem low_at (X : Vec Ideal S512x1024 .f32) (R : Vec Ideal S1024x256 .f32) (M : Vec Ideal S1000x256 .f32) (T : Vec Ideal S1000x128 .f32)
    (r : Fin 512) (j : Fin 128) (n : Fin 1000) (h : IsFirstMax (sim X R M r) n) : k0_pay2 X R M T (ix2 r j) = T (ix2 n j) := by
  pointwise [k0_pay2]
  exact oneHot_row (by norm_num) h fun k => T (ix2 k j)

/-- The upper half's payload: row `r` is the table's row at the first maximum of the similarities. -/
theorem high_at (X : Vec Ideal S512x1024 .f32) (R : Vec Ideal S1024x256 .f32) (M : Vec Ideal S1000x256 .f32) (T : Vec Ideal S1000x128 .f32)
    (r : Fin 512) (j : Fin 128) (n : Fin 1000) (h : IsFirstMax (sim X R M r) n) : k0_pay1 (k0_pay3 X R M) T (ix2 r j) = T (ix2 n j) := by
  pointwise [k0_pay1, k0_pay3]
  exact oneHot_row (by norm_num) h fun k => T (ix2 k j)

end Cert.KernelIdeal.Value

end
-- ==== Proof.RefValue.lean ====
/-
  The reference run to its result, written as a function of its arguments.
-/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

/-- The similarities: the projected states against the memories. -/
def sims (X : FVec Ideal S1024x1024 .f32) (R : FVec Ideal S1024x256 .f32) (M : FVec Ideal S1000x256 .f32) : FVec Ideal S1024x1000 .f32 :=
  Host.dotGeneral dot_S1024x256_S1000x256_S1024x1000_1_1_0_0_n_n none
    (Host.dotGeneral dot_S1024x1024_S1024x256_S1024x256_1_0_0_1_n_n none X R) M

/-- Each row's closest memory: the column of the largest similarity. -/
def best (S : FVec Ideal S1024x1000 .f32) : IVec S1024 32 := fun j =>
  (Host.argReduce (reducer_argmax_f32_i32 (F := Ideal)) S (iotaInDim S1024x1000 32 1) (constant (F := Ideal) S_ .f32 4286578688#32)
    (constantI S_ 32 0#32) reducesTo_S1024x1000_S1024_d1 h_S_ j).2

/-- The rows to look up: a negative index counted from the end. -/
def rows (b : IVec S1024 32) : IVec S1024x1 32 :=
  broadcastInDim S1024x1 ![0] bcast_S1024_S1024x1_0
    (select (cmpi .slt b (broadcastInDim S1024 ![] bcast_S_S1024 (constantI S_ 32 0#32)))
      (addi b (broadcastInDim S1024 ![] bcast_S_S1024 (constantI S_ 32 1000#32))) b)

/-- Which rows to look up lie inside the table. -/
def inside (i : IVec S1024x1 32) : IVec S1024 1 :=
  Host.reduce IntOp.andi
    (andi (cmpi .sge i (broadcastInDim S1024x1 ![] bcast_S_S1024x1 (constantI S_ 32 0#32)))
      (cmpi .sle i (broadcastInDim S1024x1 ![0, 1] bcast_S1x1_S1024x1_0_1 (broadcastInDim S1x1 ![1] bcast_S1_S1x1_1 (constantI S1 32 999#32)))))
    (constantI S_ 1 1#1) reducesTo_S1024x1_S1024_d1 h_S_

/-- The rows of the table, and a filler where a row lies outside. -/
def take (T : FVec Ideal S1000x128 .f32) (i : IVec S1024x1 32) : FVec Ideal S1024x128 .f32 :=
  select (broadcastInDim S1024x128 ![0] bcast_S1024_S1024x128_0 (inside i))
    (Host.gather gather_S1000x128_S1024x1_S1024x128_1_0_n_n_0_1_1128 T i)
    (broadcastInDim S1024x128 ![] bcast_S_S1024x128 (constant (F := Ideal) S_ .f32 2143289344#32))

/-- The reference's result, as a function of its arguments. -/
def result (X : FVec Ideal S1024x1024 .f32) (R : FVec Ideal S1024x256 .f32) (M : FVec Ideal S1000x256 .f32) (T : FVec Ideal S1000x128 .f32) :
    FVec Ideal S1024x128 .f32 :=
  take T (rows (best (sims X R M)))

variable (m : (ℓ : Loc nD τ sig) → Buf (Elt Ideal) ℓ) (ρ : Dev nD → PrngReg)

/-- The reference runs, ends with `result` of its arguments, and leaves them unchanged. -/
theorem run : θ_run (defs (F := Ideal)) (onTc (τ := τ) (main (F := Ideal))) ⟨m, fun _ => 0, ρ⟩ fun r => ∀ c : Dev nD,
      r.2.mem ((c.tc : Thread nD τ).loc main_v3)
        = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  simp -implicitDefEqProofs only [StableHlo.TRef.toBuf, StableHlo.TRef.ofBuf, cast_cast, cast_eq]
  rfl

/-- The reference's frame: it runs, its arguments end unchanged, and it has no semaphore. -/
theorem frame : Cert.quiescent_ReferenceIdeal := fun m ρ _ =>
  θ_run_mono (run m ρ) fun r h => ⟨fun c => (h c).2, sem_eq_zero_of_no_sems (by decide) r.2⟩

end Cert.ReferenceIdeal.Value

end
-- ==== Proof.RefBest.lean ====
/-
  The reference's result read at an index: the table's row at the first maximum of the row of similarities.
-/
module

public import proofs.«01_k».proof.Proof.FirstMax
public import proofs.«01_k».proof.Proof.RefValue
public import Idealize.ShloMosaic.Lib.Routing.Ops
public import Idealize.ShloMosaic.Lib.Routing.OpsPair
public import Idealize.ShloMosaic.Lib.ReduceAll

@[expose] public section

set_option maxRecDepth 16384

noncomputable section

namespace Cert.ReferenceIdeal.Value

open Cert.ReferenceIdeal Cert.ReferenceIdeal.Gen Cert.FirstMax
open Idealize.ShloMosaic Idealize.ShloMosaic.TcCoe Idealize.SL.Sem

/-- The reference's reducer, at extended reals, is the step on (value, column) pairs. -/
theorem reducer_eq : (reducer_argmax_f32_i32 (F := Ideal)) = step := by
  funext a b
  unfold reducer_argmax_f32_i32 step
  by_cases h1 : b.1 < a.1 <;> by_cases h2 : a.1 = b.1 <;> by_cases h3 : a.2.toInt < b.2.toInt <;>
    simp [Ideal.cmpf_def, Ideal.cmp, Scalar.select, IntOp.ori, IntOp.andi, IntOp.cmpi, BitVec.slt, h1, h2, h3]

/-- An element of row `r` reduces into row `r`. -/
theorem drop_row (r : Fin 1024) (k : Fin 1000) : reducesTo_S1024x1000_S1024_d1.drop (ix2 r k) = ix1 r := by
  funext a
  match a with
  | ⟨0, _⟩ => exact Fin.ext (Shape.ReducesTo.drop_apply_val_of_eq reducesTo_S1024x1000_S1024_d1 (ix2 r k) 0 0)

/-- An element that reduces into row `r` is an element of row `r`. -/
theorem eq_of_drop (r : Fin 1024) (i : S1024x1000.Idx) (h : reducesTo_S1024x1000_S1024_d1.drop i = ix1 r) : i = ix2 r (i 1) := by
  have e : (i 0 : Nat) = r.val :=
    (Shape.ReducesTo.drop_apply_val_of_eq reducesTo_S1024x1000_S1024_d1 i 0 0).symm.trans (congrArg Fin.val (congrFun h 0))
  funext a
  match a with
  | ⟨0, _⟩ => exact Fin.ext e
  | ⟨1, _⟩ => rfl

/-- The closest memory of row `r` is its first maximum. -/
theorem best_at (S : FVec Ideal S1024x1000 .f32) (r : Fin 1024) (n : Fin 1000) (h : IsFirstMax (fun k => S (ix2 r k)) n) :
    best S (ix1 r) = BitVec.ofNat 32 n.val := by
  unfold best
  rw [Ideal.argReduce_eq_reduce2, Host.reduce2_eq_foldl_fiber, reducer_eq]
  have h0 : ((constant (F := Ideal) S_ .f32 4286578688#32) (Shape.Idx.first h_S_), (constantI S_ 32 0#32) (Shape.Idx.first h_S_))
      = ((⊥ : EReal), 0#32) := Prod.ext ofBits_negInf rfl
  have hl : ∀ b ∈ Host.argReduceFiber S (iotaInDim S1024x1000 32 1) reducesTo_S1024x1000_S1024_d1 (ix1 r), ∃ k, b = pair (fun k => S (ix2 r k)) k := by
    intro b hb
    obtain ⟨p, hp, rfl⟩ := List.mem_map.1 hb
    have hd := of_decide_eq_true (List.mem_filter.1 hp).2
    have e := eq_of_drop r _ hd
    generalize S1024x1000.rowMajor.symm p = i at e ⊢
    refine ⟨i 1, ?_⟩
    rw [e]
    rfl
  have hm : pair (fun k => S (ix2 r k)) n ∈ Host.argReduceFiber S (iotaInDim S1024x1000 32 1) reducesTo_S1024x1000_S1024_d1 (ix1 r) := by
    refine List.mem_map.2 ⟨S1024x1000.rowMajor (ix2 r n), List.mem_filter.2 ⟨List.mem_finRange _, decide_eq_true ?_⟩, ?_⟩
    · rw [Equiv.symm_apply_apply, drop_row]
    · exact congrArg (fun i => (S i, iotaInDim S1024x1000 32 1 i)) (Equiv.symm_apply_apply _ _)
  have e := foldl_meet (by omega) h _ _ (before_init h) hl hm
  rw [h0, e]
  rfl
end Cert.ReferenceIdeal.Value

end
-- ==== Proof.RefRow.lean ====
/-
  The reference's result read at an index: the table's row at the first maximum of the row of similarities.
-/
module

public import proofs.«01_k».proof.Proof.FirstMax
public import proofs.«01_k».proof.Proof.RefBest
public import Idealize.ShloMosaic.Lib.Routing.Ops
public import Idealize.ShloMosaic.Lib.Routing.OpsPair
public import Idealize.ShloMosaic.Lib.ReduceAll

@[expose] public section

set_option maxRecDepth 16384

noncomputable section

namespace Cert.ReferenceIdeal.Value

open Cert.ReferenceIdeal Cert.ReferenceIdeal.Gen Cert.FirstMax
open Idealize.ShloMosaic Idealize.ShloMosaic.TcCoe Idealize.SL.Sem

/-- A column's word is not negative. -/
theorem toNat_col (n : Fin 1000) : (BitVec.ofNat 32 n.val).toNat = n.val := by
  have := n.isLt
  rw [BitVec.toNat_ofNat]; omega

/-- The row looked up for `r` is its closest memory: no index is negative. -/
theorem rows_at (b : IVec S1024 32) (r : Fin 1024) (z : Fin 1) (n : Fin 1000) (h : b (ix1 r) = BitVec.ofNat 32 n.val) :
    rows b (ix2 r z) = BitVec.ofNat 32 n.val := by
  unfold rows
  pointwise
  rw [Routing.wrap_of_lt, h]
  rw [h, toNat_col]
  have := n.isLt
  omega

/-- Every row looked up lies inside the table. -/
theorem inside_at (i : IVec S1024x1 32) (h : ∀ r z, ∃ n : Fin 1000, i (ix2 r z) = BitVec.ofNat 32 n.val) (r : Fin 1024) : inside i (ix1 r) = 1#1 := by
  unfold inside
  refine Host.reduce_andi_one _ _ _ _ _ rfl fun x => ?_
  obtain ⟨n, hn⟩ := h (x 0) (x 1)
  have hx : x = ix2 (x 0) (x 1) := by
    funext a
    match a with
    | ⟨0, _⟩ => rfl
    | ⟨1, _⟩ => rfl
  rw [hx]
  show IntOp.andi (IntOp.cmpi .sge (i (ix2 (x 0) (x 1))) 0#32) (IntOp.cmpi .sle (i (ix2 (x 0) (x 1))) 999#32) = 1#1
  rw [hn]
  have e := toInt_col (N := 1000) (by omega) n
  have := n.isLt
  simp only [IntOp.cmpi, IntOp.andi, BitVec.sle, e]
  rw [decide_eq_true, decide_eq_true]
  · rfl
  · show (n.val : Int) ≤ 999; omega
  · show (0 : Int) ≤ n.val; omega

/-- When every row looked up is one of the table's, the rows taken are the table's at the numbers looked up. -/
theorem take_at (T : FVec Ideal S1000x128 .f32) (i : IVec S1024x1 32) (h : ∀ r z, ∃ n : Fin 1000, i (ix2 r z) = BitVec.ofNat 32 n.val)
    (r : Fin 1024) (j : Fin 128) (n : Fin 1000) (e : i (ix2 r 0) = BitVec.ofNat 32 n.val) : take T i (ix2 r j) = T (ix2 n j) := by
  unfold take
  pointwise
  rw [inside_at i h r]
  exact Routing.gather_row gather_S1000x128_S1024x1_S1024x128_1_0_n_n_0_1_1128 rfl rfl rfl rfl rfl T i r j n e (by omega)

/-- The reference's result at row `r`: the table's row at the first maximum of the row's similarities. -/
theorem result_at (X : FVec Ideal S1024x1024 .f32) (R : FVec Ideal S1024x256 .f32) (M : FVec Ideal S1000x256 .f32) (T : FVec Ideal S1000x128 .f32)
    (r : Fin 1024) (j : Fin 128) (n : Fin 1000) (h : IsFirstMax (fun k : Fin 1000 => sims X R M (ix2 r k)) n) :
    result X R M T (ix2 r j) = T (ix2 n j) := by
  have hrow : ∀ r z, ∃ n : Fin 1000, rows (best (sims X R M)) (ix2 r z) = BitVec.ofNat 32 n.val := fun r z => by
    obtain ⟨n, hn⟩ := exists_isFirstMax (by omega) (fun k : Fin 1000 => sims X R M (ix2 r k))
    exact ⟨n, rows_at _ r z n (best_at _ r n hn)⟩
  exact take_at T _ hrow r j n (rows_at _ r 0 n (best_at _ r n h))

/-- A similarity is the sum over the projection of the projected state times the memory. -/
theorem sims_at (X : FVec Ideal S1024x1024 .f32) (R : FVec Ideal S1024x256 .f32) (M : FVec Ideal S1000x256 .f32) (r : Fin 1024) (k : Fin 1000) :
    sims X R M (ix2 r k) = ∑ p : Fin 256, (∑ d : Fin 1024, X (ix2 r d) * R (ix2 d p)) * M (ix2 k p) := by
  pointwise [sims]

end Cert.ReferenceIdeal.Value

end
-- ==== Proof.Equal.lean ====
/-
  The kernel's result array is the reference's result of the same arguments, row by row.
-/
module

public import proofs.«01_k».proof.Proof.Blocks
public import proofs.«01_k».proof.Proof.KernelRow
public import proofs.«01_k».proof.Proof.RefRow

@[expose] public section

set_option maxRecDepth 16384

noncomputable section

namespace Cert.KernelIdeal.Value

open Cert.KernelIdeal Cert.KernelIdeal.Gen Cert.FirstMax
open Idealize.ShloMosaic Idealize.ShloMosaic.TcCoe Idealize.SL.Sem

/-- An index of a half of the result is its row and its column. -/
theorem idx_half (x : S512x128.Idx) : ∃ (r : Fin 512) (j : Fin 128), x = ix2 r j := by
  refine ⟨x 0, x 1, funext fun a => ?_⟩
  match a with
  | ⟨0, _⟩ => rfl
  | ⟨1, _⟩ => rfl

/-- Row `r` of the half from row `o` on has the similarities of row `o + r` of the whole. -/
theorem sim_half (X : FVec Ideal S1024x1024 .f32) (R : FVec Ideal S1024x256 .f32) (M : FVec Ideal S1000x256 .f32)
    (o : Nat) (ho : o + 512 ≤ 1024) (r : Fin 512) :
    sim (half X o ho) R M r = fun k : Fin 1000 => Cert.ReferenceIdeal.Value.sims X R M (ix2 (⟨o + r.val, by omega⟩ : Fin 1024) k) := by
  funext k
  rw [Cert.ReferenceIdeal.Value.sims_at]
  rfl

/-- The lower half's payload is the reference's first 512 rows. -/
theorem low_eq (X : FVec Ideal S1024x1024 .f32) (R : FVec Ideal S1024x256 .f32) (M : FVec Ideal S1000x256 .f32) (T : FVec Ideal S1000x128 .f32)
    (x : S512x128.Idx) : k0_pay2 (half X 0 (by omega)) R M T x
      = Cert.ReferenceIdeal.Value.result X R M T ((Rect.unit (s := S1024x128) ![0, 0] ![512, 128] inb_S1024x128_S512x128_0_0).emb x) := by
  obtain ⟨r, j, rfl⟩ := idx_half x
  obtain ⟨n, hn⟩ := exists_isFirstMax (by omega) (sim (half X 0 (by omega)) R M r)
  have e : (Rect.unit (s := S1024x128) ![0, 0] ![512, 128] inb_S1024x128_S512x128_0_0).emb (ix2 r j)
      = ix2 (⟨0 + r.val, by omega⟩ : Fin 1024) j := by
    funext a
    refine Fin.ext ?_
    match a with
    | ⟨0, _⟩ => show 0 + 1 * r.val = 0 + r.val; omega
    | ⟨1, _⟩ => show 0 + 1 * j.val = j.val; omega
  rw [low_at _ _ _ _ r j n hn, e]
  rw [sim_half] at hn
  exact (Cert.ReferenceIdeal.Value.result_at X R M T _ j n hn).symm

/-- The upper half's payload is the reference's last 512 rows. -/
theorem high_eq (X : FVec Ideal S1024x1024 .f32) (R : FVec Ideal S1024x256 .f32) (M : FVec Ideal S1000x256 .f32) (T : FVec Ideal S1000x128 .f32)
    (x : S512x128.Idx) : k0_pay1 (k0_pay3 (half X 512 (by omega)) R M) T x
      = Cert.ReferenceIdeal.Value.result X R M T ((Rect.unit (s := S1024x128) ![512, 0] ![512, 128] inb_S1024x128_S512x128_512_0).emb x) := by
  obtain ⟨r, j, rfl⟩ := idx_half x
  obtain ⟨n, hn⟩ := exists_isFirstMax (by omega) (sim (half X 512 (by omega)) R M r)
  have e : (Rect.unit (s := S1024x128) ![512, 0] ![512, 128] inb_S1024x128_S512x128_512_0).emb (ix2 r j)
      = ix2 (⟨512 + r.val, by omega⟩ : Fin 1024) j := by
    funext a
    refine Fin.ext ?_
    match a with
    | ⟨0, _⟩ => show 512 + 1 * r.val = 512 + r.val; omega
    | ⟨1, _⟩ => show 0 + 1 * j.val = j.val; omega
  rw [high_at _ _ _ _ r j n hn, e]
  rw [sim_half] at hn
  exact (Cert.ReferenceIdeal.Value.result_at X R M T _ j n hn).symm

variable (m : (ℓ : Loc nD τ sig) → Buf (Elt Ideal) ℓ)

/-- The kernel's result array ends holding the reference's result of the kernel's arguments. -/
theorem final_eq (c : Dev nD) : (dats m 0 c).arrAt 0 (cfgs 0).N
    = Cert.ReferenceIdeal.Value.result (m ((c : Thread nD τ).loc main_arg0)) (m ((c : Thread nD τ).loc main_arg1))
        (m ((c : Thread nD τ).loc main_arg2)) (m ((c : Thread nD τ).loc main_arg3)) :=
  final m c _ (low_eq _ _ _ _) (high_eq _ _ _ _)

end Cert.KernelIdeal.Value

end
-- ==== Proof.GatherParts.lean ====
/-
  The SparseCore gather as thirty-two tasks: the launch it runs under, the arrays it works on, the block of rows each
  task owns, and the table's rows the result is to hold.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.GatherIdeal
public import proofs.«01_k».proof.Proof.Gen.GatherIdeal.Skeleton

@[expose] public section

noncomputable section

namespace Cert.GatherIdeal.Rows

open Cert.GatherIdeal Cert.GatherIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev Labs : Labels := Pipeline.Sig Λ₀ (Fin 0) fun p => (pcfgs (F := F) p).Adm
abbrev Launch : SparseCore.Cfg τ sig (Labs (F := F)) 1 := sc (F := F)
abbrev Table [FloatOps F] : Defs nD τ sig (Elt F) (Labs (F := F)) := Pipeline.defs pcfgs defs₀
abbrev NoVar : Variants := Variants.none
abbrev Var : Variants := NoVar.lift
abbrev start : Var.V := Sum.inl none

theorem launch_facts : (Launch (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state: the handshakes' rounds and the transfers' counters. -/
abbrev Hand : Type := URounds (GSem nD τ sig) ℕ
abbrev Ghost : Type := Hand × Counters

local notation "𝕄" => MT nD τ sig (HIx 1) (Elt F) ℕ Ghost ℕ

abbrev handEmb : Emb Hand (MT nD τ sig (HIx 1) (Elt F) ℕ Ghost ℕ) := embL

/-! ## The arrays -/

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev idxRef : Memref sig .scVector .hbm S1024 .i32 := Memref.whole main_arg0_scv
abbrev tabRef : Memref sig .scVector .hbm S1000x128 .f32 := Memref.whole main_arg1_scv
abbrev outRef : Memref sig .scVector .hbm S1024x128 .f32 := Memref.whole main_v0_scv
abbrev listRef : Memref sig .scVector .vmem S32 .i32 := Memref.whole cc0_scratch0
abbrev rowsRef : Memref sig .scVector .vmem S32x128 .f32 := Memref.whole cc0_scratch1

variable (m : (ℓ : Loc nD τ sig) → Buf (Elt F) ℓ) (ρ : Dev nD → PrngReg)

/-- Every index names a row of the table. -/
def InTable : Prop := ∀ (d : Dev nD) (j : S1024.Idx), (m (iLoc d) j : BitVec 32).toNat < 1000

/-- The row of the table index `r` names. -/
def rowOf (d : Dev nD) (r : Fin 1024) : Fin 1000 := ⟨(m (iLoc d) (ix1 r) : BitVec 32).toNat % 1000, Nat.mod_lt _ (by decide)⟩

/-- What the result is to hold: row `r` is the row of the table index `r` names. -/
def picked (d : Dev nD) : Buf (Elt F) (oLoc d) := fun y : S1024x128.Idx => m (xLoc d) (ix2 (rowOf m d (y 0)) (y 1))

/-! ## The tasks' blocks -/

theorem idx_parts : 32 ∣ S1024.size 0 := ⟨32, rfl⟩
theorem out_parts : 32 ∣ S1024x128.size 0 := ⟨32, rfl⟩

/-- The indices and the rows of the result that belong to task `w`. -/
abbrev idxSet (w : Fin 32) : Finset S1024.Idx := (Rect.part (s := S1024) (a₀ := 0) idx_parts w).set
abbrev outSet (w : Fin 32) : Finset S1024x128.Idx := (Rect.part (s := S1024x128) (a₀ := 0) out_parts w).set
/-- Task `w`'s share of the table. -/
abbrev share (w : Fin 32) : PosShare TreeShare := pieceOf fullShare 32 (by decide) w

/-- The task of vector subcore `i` of SparseCore `c`. -/
def task (c : Fin 2) (i : Fin 16) : Fin 32 := ⟨2 * i.val + c.val, by omega⟩

/-- What task `w` works on: its indices, its share of the table, and its block of the result holding `f`. -/
def part (d : Dev nD) (w : Fin 32) (f : Buf (Elt F) (oLoc d)) : sProp 𝕄 :=
  iprop((iLoc d ↦[idxSet w]{fullShare} m (iLoc d)) ∗ (xLoc d ↦{share w} m (xLoc d)) ∗ (oLoc d ↦[outSet w]{fullShare} f))

/-- The three arrays whole, the result holding `f`. -/
def whole (d : Dev nD) (f : Buf (Elt F) (oLoc d)) : sProp 𝕄 :=
  iprop((iLoc d ↦{fullShare} m (iLoc d)) ∗ (xLoc d ↦{fullShare} m (xLoc d)) ∗ (oLoc d ↦{fullShare} f))

instance part_storable (d : Dev nD) (w : Fin 32) (f : Buf (Elt F) (oLoc d)) : BI.Storable (upEmb : UEmb _ 𝕄) (part m d w f) := by
  unfold part; infer_instance

/-- Which subcore runs which task. -/
def taskEquiv : Fin 2 × Fin 16 ≃ Fin 32 where
  toFun p := task p.1 p.2
  invFun w := (⟨w.val % 2, by omega⟩, ⟨w.val / 2, by omega⟩)
  left_inv p := by
    refine Prod.ext (Fin.ext ?_) (Fin.ext ?_) <;> simp only [task] <;> omega
  right_inv w := by
    refine Fin.ext ?_
    simp only [task]; omega

/-- The arrays whole are all the tasks' parts of them. -/
theorem whole_parts (d : Dev nD) (f : Buf (Elt F) (oLoc d)) :
    whole m d f = bigSep Finset.univ fun c : Fin 2 => bigSep Finset.univ fun i : Fin 16 => part m d (task c i) f := by
  have hi : (iLoc d ↦{fullShare} m (iLoc d) : sProp 𝕄) = bigSep Finset.univ fun w : Fin 32 => iLoc d ↦[idxSet w]{fullShare} m (iLoc d) := by
    rw [← pointsTo_biUnion Finset.univ (ℓ := iLoc d) idxSet fun w _ w' _ h => Rect.part_disjoint idx_parts h]
    exact congrArg (fun S => (iLoc d ↦[S]{fullShare} m (iLoc d) : sProp 𝕄)) (Rect.biUnion_part idx_parts).symm
  have ho : (oLoc d ↦{fullShare} f : sProp 𝕄) = bigSep Finset.univ fun w : Fin 32 => oLoc d ↦[outSet w]{fullShare} f := by
    rw [← pointsTo_biUnion Finset.univ (ℓ := oLoc d) outSet fun w _ w' _ h => Rect.part_disjoint out_parts h]
    exact congrArg (fun S => (oLoc d ↦[S]{fullShare} f : sProp 𝕄)) (Rect.biUnion_part out_parts).symm
  have hx : (xLoc d ↦{fullShare} m (xLoc d) : sProp 𝕄) = bigSep Finset.univ fun w : Fin 32 => xLoc d ↦{share w} m (xLoc d) :=
    pointsTo_piecesOf Finset.univ (m (xLoc d)) (by decide) fullShare
  unfold whole
  rw [hi, ho, hx, ← bigSep_sep', ← bigSep_sep', bigSep_univ_equiv taskEquiv, bigSep_univ_prod]
  rfl

end Cert.GatherIdeal.Rows

end
-- ==== Proof.GatherTask.lean ====
/-
  One task of the SparseCore gather: it copies its thirty-two indices into its own memory, gathers the rows of the table
  they name, and copies those rows to its block of the result.
-/
module

public import proofs.«01_k».proof.Proof.GatherParts

@[expose] public section

noncomputable section

namespace Cert.GatherIdeal.Rows

open Cert.GatherIdeal Cert.GatherIdeal.Gen
open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ Ghost ℕ

variable (m : (ℓ : Loc nD τ sig) → Buf (Elt F) ℓ) (ρ : Dev nD → PrngReg)
variable (d : Dev nD) (L : grid0.Coords)

/-- The subcore at coordinates `L`, and its task. -/
abbrev core (L : grid0.Coords) : Fin τ.nSC := (L 0).castLE hcore0
abbrev tile (L : grid0.Coords) : Fin τ.nSub := (L 1).castLE hsub0
abbrev here : Thread nD τ := V d (core L) (tile L)
abbrev num (L : grid0.Coords) : Fin 32 := task (L 0) (L 1)

/-- The slices the task copies from and to. -/
abbrev idxCut : Memref sig .scVector .hbm S32 .i32 :=
  idxRef.slice (Rect.unit (s := S1024) (k0_off1 L) S32.size (k0_off1_inb L)) (fun _ => rfl)
abbrev tabCut : Memref sig .scVector .hbm S1000x128 .f32 :=
  tabRef.slice (Rect.unit (s := S1000x128) ![0, 0] S1000x128.size inb_S1000x128_S1000x128_0_0) (fun _ => rfl)
abbrev outCut : Memref sig .scVector .hbm S32x128 .f32 :=
  outRef.slice (Rect.unit (s := S1024x128) (k0_off2 L) S32x128.size (k0_off2_inb L)) (fun _ => rfl)

/-! ## Where a slice's elements are -/

/-- Element `k` of the task's index slice is index `64 * tile + 32 * core + k`, -/
theorem idxCut_at (x : S32.Idx) : ((idxCut L).view.emb x 0).val = 64 * (L 1).val + 32 * (L 0).val + (x 0).val := by
  show ((Rect.unit (s := S1024) (k0_off1 L) S32.size (k0_off1_inb L)).emb x 0).val = _
  rw [Rect.emb_apply]
  show k0_off1 L 0 + 1 * (x 0).val = _
  rw [k0_off1_eq, Nat.one_mul]; rfl

/-- and element `(k, j)` of its slice of the result is in row `64 * tile + 32 * core + k`, -/
theorem outCut_row (z : S32x128.Idx) : ((outCut L).view.emb z 0).val = 64 * (L 1).val + 32 * (L 0).val + (z 0).val := by
  show ((Rect.unit (s := S1024x128) (k0_off2 L) S32x128.size (k0_off2_inb L)).emb z 0).val = _
  rw [Rect.emb_apply]
  show k0_off2 L 0 + 1 * (z 0).val = _
  rw [k0_off2_eq, Nat.one_mul]; rfl

/-- and in column `j`. -/
theorem outCut_col (z : S32x128.Idx) : ((outCut L).view.emb z 1).val = (z 1).val := by
  show ((Rect.unit (s := S1024x128) (k0_off2 L) S32x128.size (k0_off2_inb L)).emb z 1).val = _
  rw [Rect.emb_apply]
  show k0_off2 L 1 + 1 * (z 1).val = _
  rw [k0_off2_eq, Nat.one_mul]
  exact Nat.zero_add _

/-- The slice of the table is all of it. -/
theorem tabCut_at (z : S1000x128.Idx) : (tabCut).view.emb z = z := by
  funext a
  refine Fin.ext ?_
  show ((Rect.unit (s := S1000x128) ![0, 0] S1000x128.size inb_S1000x128_S1000x128_0_0).emb z a).val = _
  rw [Rect.emb_apply]
  show (![0, 0] : Fin 2 → ℕ) a + 1 * (z a).val = _
  match a with
  | 0 => simp
  | 1 => simp

/-! ## The slices are the task's blocks -/

theorem idxCut_set : (idxCut L).view.set = idxSet (num L) := by
  show ((View.whole (main_arg0_scv : Ref sig .scVector)).slice _).set = _
  rw [View.set_slice]
  refine Finset.map_refl.trans (congrArg (fun r : Rect S1024 => r.set) ?_)
  unfold Rect.part Rect.block
  congr 1 <;> funext a
  · rw [k0_off1_eq]
    match a with
    | 0 =>
      have hw : (num L).val = 2 * (L 1).val + (L 0).val := rfl
      simp [Shape.partIx, Shape.partSize, hw]; omega
  · match a with
    | 0 => simp [Shape.partSize]

theorem outCut_set : (outCut L).view.set = outSet (num L) := by
  show ((View.whole (main_v0_scv : Ref sig .scVector)).slice _).set = _
  rw [View.set_slice]
  refine Finset.map_refl.trans (congrArg (fun r : Rect S1024x128 => r.set) ?_)
  unfold Rect.part Rect.block
  congr 1 <;> funext a
  · rw [k0_off2_eq]
    match a with
    | 0 =>
      have hw : (num L).val = 2 * (L 1).val + (L 0).val := rfl
      simp [Shape.partIx, Shape.partSize, hw]; omega
    | 1 => simp [Shape.partIx, Shape.partSize]
  · match a with
    | 0 => simp [Shape.partSize]
    | 1 => simp [Shape.partSize]

/-! ## The values -/

/-- What the task's index slice reads. -/
theorem idx_read (x : S32.Idx) : (idxCut L).view.read (Elt F) (m (iLoc d)) x = m (iLoc d) ((idxCut L).view.emb x) := rfl

/-- The rows gathered by the task's indices are those the result is to hold at its block. -/
theorem gathered (hin : InTable m) (l : S32.Idx → Elt F .i32) (hl : l = (idxCut L).view.read (Elt F) (m (iLoc d)))
    (hn : S32.numel = S32x128.size gathers_S1000x128_S32x128.axis') (hb : ∀ x, (l x : BitVec 32).toNat < S1000x128.size gathers_S1000x128_S32x128.axis)
    (z : S32x128.Idx) :
    SparseCore.gatherPayload gathers_S1000x128_S32x128 (tabCut.view.read (Elt F) (m (xLoc d))) (SparseCore.rows l hn hb) z
      = picked m d ((outCut L).view.emb z) := by
  subst hl
  unfold SparseCore.gatherPayload picked
  show m (xLoc d) (tabCut.view.emb _) = _
  rw [tabCut_at]
  congr 1
  have h0 := Shape.Gathers.idx_axis gathers_S1000x128_S32x128 (SparseCore.rows ((idxCut L).view.read (Elt F) (m (iLoc d))) hn hb) z
  have h1 := Shape.Gathers.idx_of_ne gathers_S1000x128_S32x128 (SparseCore.rows ((idxCut L).view.read (Elt F) (m (iLoc d))) hn hb) z 1 (by decide)
  funext a
  match a with
  | ⟨0, _⟩ =>
    refine h0.trans (Fin.ext ?_)
    have key : (idxCut L).view.emb (S32.rowMajor.symm ((z 0).cast hn.symm)) = ix1 ((outCut L).view.emb z 0) := by
      funext b
      obtain rfl : b = (0 : Fin 1) := Subsingleton.elim (α := Fin 1) _ _
      refine Fin.ext ((idxCut_at L _).trans ?_)
      refine Eq.trans ?_ (outCut_row L z).symm
      refine congrArg (64 * (L 1).val + 32 * (L 0).val + ·) ?_
      rw [← Shape.rowMajor_val_one, Equiv.apply_symm_apply]; rfl
    show ((idxCut L).view.read (Elt F) (m (iLoc d)) (S32.rowMajor.symm ((z 0).cast hn.symm)) : BitVec 32).toNat = (m (iLoc d) (ix1 ((outCut L).view.emb z 0)) : BitVec 32).toNat % 1000
    rw [idx_read, key]
    exact (Nat.mod_eq_of_lt (hin d _)).symm
  | ⟨1, _⟩ =>
    refine Fin.ext (h1.trans ?_)
    exact (outCut_col L z).symm

/-- A block written with what the result is to hold there holds it. -/
theorem landed (f : Buf (Elt F) (oLoc d)) (p : S32x128.Idx → Elt F .f32) (hp : ∀ z, p z = picked m d ((outCut L).view.emb z)) :
    ((outCut L).view.loc (here d L) ↦[outSet (num L)]{fullShare} (outCut L).view.writes (Elt F) f [⟨Rect.whole S32x128, p⟩] : sProp 𝕄)
      = oLoc d ↦[outSet (num L)]{fullShare} picked m d := by
  refine pointsTo_congr fun i hi => ?_
  rw [← outCut_set L] at hi
  obtain ⟨z, -, rfl⟩ := Finset.mem_map.mp hi
  have h := View.read_writes_cons_emb (v := (outCut L).view) (Val := Elt F) (f := f) (Rect.whole S32x128) p [] z
  rw [Rect.emb_whole_apply] at h
  exact h.trans (hp z)

/-! ## What a subcore has of its own -/

/-- The task's three semaphores: the index copy's, the gather's, the result copy's. -/
abbrev semI : GSem nD τ sig := (here d L, .dma cc0_scoped0.sem)
abbrev semG : GSem nD τ sig := (here d L, .dma cc0_scratch2.sem)
abbrev semO : GSem nD τ sig := (here d L, .dma cc0_scoped1.sem)

/-- The semaphores of the subcore the task does not use. -/
def otherSems : sProp 𝕄 := bigSep ((((ownCells (here d L)).erase (semI d L)).erase (semG d L)).erase (semO d L)) fun g => semVal g 0

theorem own_sems :
    (ownSems0 (here d L) : sProp 𝕄) = iprop(semVal (semI d L) 0 ∗ semVal (semG d L) 0 ∗ semVal (semO d L) 0 ∗ otherSems (F := F) d L) := by
  have hI : semI d L ∈ ownCells (here d L) := mem_ownCells.mpr ⟨rfl, show (SemLoc.dma cc0_scoped0.sem : SemLoc sig).isScoped .scVector = true by decide⟩
  have hG : semG d L ∈ ownCells (here d L) := mem_ownCells.mpr ⟨rfl, show (SemLoc.dma cc0_scratch2.sem : SemLoc sig).isScoped .scVector = true by decide⟩
  have hO : semO d L ∈ ownCells (here d L) := mem_ownCells.mpr ⟨rfl, show (SemLoc.dma cc0_scoped1.sem : SemLoc sig).isScoped .scVector = true by decide⟩
  have hGI : semG d L ≠ semI d L := fun e => absurd (congrArg Prod.snd e) (show (SemLoc.dma cc0_scratch2.sem : SemLoc sig) ≠ .dma cc0_scoped0.sem by decide)
  have hOI : semO d L ≠ semI d L := fun e => absurd (congrArg Prod.snd e) (show (SemLoc.dma cc0_scoped1.sem : SemLoc sig) ≠ .dma cc0_scoped0.sem by decide)
  have hOG : semO d L ≠ semG d L := fun e => absurd (congrArg Prod.snd e) (show (SemLoc.dma cc0_scoped1.sem : SemLoc sig) ≠ .dma cc0_scratch2.sem by decide)
  unfold SparseCore.Cfg.ownSems0 otherSems
  rw [SparseCore.bigSep_erase' hI, SparseCore.bigSep_erase' (Finset.mem_erase.mpr ⟨hGI, hG⟩),
    SparseCore.bigSep_erase' (Finset.mem_erase.mpr ⟨hOG, Finset.mem_erase.mpr ⟨hOI, hO⟩⟩)]

/-- The two buffers of the subcore, as its own references. -/
abbrev listOwn : DevRef τ sig := (Proc.scVector (core L) (tile L)).devRef cc0_scratch0
abbrev rowsOwn : DevRef τ sig := (Proc.scVector (core L) (tile L)).devRef cc0_scratch1

/-- The buffers of the subcore the task does not use. -/
def otherBufs : sProp 𝕄 :=
  bigSep (((ownRefs (τ := τ) (.scVector (core L) (tile L))).erase (listOwn L)).erase (rowsOwn L)) fun b => iprop(∃ f, ((d, b) : Loc nD τ sig) ↦{fullShare} f)

theorem own_bufs :
    (ownBufs (here d L) : sProp 𝕄)
      = iprop((∃ f, (here d L).loc cc0_scratch0 ↦{fullShare} f) ∗ (∃ f, (here d L).loc cc0_scratch1 ↦{fullShare} f) ∗ otherBufs (F := F) d L) := by
  have hl : listOwn L ∈ ownRefs (τ := τ) (.scVector (core L) (tile L)) := SparseCore.Cfg.mem_ownRefs_of_owner rfl
  have hr : rowsOwn L ∈ ownRefs (τ := τ) (.scVector (core L) (tile L)) := SparseCore.Cfg.mem_ownRefs_of_owner rfl
  have hne : rowsOwn L ≠ listOwn L := fun e => absurd (Proc.devRef_injective _ e) (show (cc0_scratch1 : Ref sig .scVector) ≠ cc0_scratch0 by decide)
  unfold SparseCore.Cfg.ownBufs otherBufs
  exact (SparseCore.bigSep_erase' hl).trans (by rw [SparseCore.bigSep_erase' (Finset.mem_erase.mpr ⟨hne, hr⟩)])

/-! ## The task -/

variable [FloatOps F]

/-- The words fetched into the list are the task's indices, each a row of the table. -/
theorem list_in (hin : InTable m) (f : Buf (Elt F) ((here d L).loc cc0_scratch0)) (x : S32.Idx) :
    (listRef.view.read (Elt F) (listRef.view.write (Elt F) f ((idxCut L).view.read (Elt F) (m (iLoc d))) Finset.univ) x : BitVec 32).toNat
      < S1000x128.size gathers_S1000x128_S32x128.axis := by
  rw [show listRef.view.write (Elt F) f ((idxCut L).view.read (Elt F) (m (iLoc d))) Finset.univ = (idxCut L).view.read (Elt F) (m (iLoc d)) from
    View.write_whole_univ _ _ _]
  exact hin d _

/-- What is sent from the row buffer, once the gather has landed in it, is what the result is to hold at the task's block. -/
theorem sent (hin : InTable m) (fl : Buf (Elt F) ((here d L).loc cc0_scratch0)) (fr : Buf (Elt F) ((here d L).loc cc0_scratch1)) (z : S32x128.Idx) :
    rowsRef.view.read (Elt F) (rowsRef.view.write (Elt F) fr
        (SparseCore.gatherPayload gathers_S1000x128_S32x128 (tabCut.view.read (Elt F) (m (xLoc d)))
          (SparseCore.rows (listRef.view.read (Elt F) (listRef.view.write (Elt F) fl ((idxCut L).view.read (Elt F) (m (iLoc d))) Finset.univ))
            rfl (list_in m d L hin fl))) Finset.univ) z
      = picked m d ((outCut L).view.emb z) :=
  (congrFun (View.write_whole_univ cc0_scratch1 fr _) z).trans
    (gathered m d L hin _ (View.write_whole_univ cc0_scratch0 fl _) rfl (list_in m d L hin fl) z)

set_option maxHeartbeats 400000 in
theorem task_run (hF : (Launch (F := F)).Facts) (hin : InTable m) (O : CellTallies nD τ sig (HIx 1)) (W : Waits sig (HIx 1)) (hO : ∀ g, O g none = 0) :
    iprop(levAts (Launch (F := F)).L (Launch (F := F)).lev ∗ emp ∗ part m d (num L) (m (oLoc d))
        ∗ scopedBufs (here d L) ∗ scopedSems0 (here d L) ∗ owes (here d L) O W)
      ⊢ wp frame (wpE (defs₀ (F := F)) NoVar (here d L) none) Set.univ
          (cc0__sc_gather L idxRef (Memref.isWhole_whole _) tabRef (Memref.isWhole_whole _) outRef (Memref.isWhole_whole _)
            listRef (Memref.isWhole_whole _) rowsRef (Memref.isWhole_whole _) cc0_scratch2 cc0_scoped0 cc0_scoped1)
          fun _ => iprop(part m d (num L) (picked m d) ∗ scopedBufs (here d L) ∗ scopedSems0 (here d L)
            ∗ ∃ W', ⌜∀ p ∈ W', p ∈ W ∨ p.2 = none⌝ ∗ owes (here d L) O W') := by
  simp only [cc0__sc_gather_eq_skeleton]; unfold cc0__sc_gather_skel
  rw [(Launch (F := F)).scopedBufs_V hF d (core L) (tile L), SparseCore.Cfg.scopedSems0_V (Val := Elt F) d (core L) (tile L), own_sems, own_bufs]
  unfold part
  rw [← idxCut_set L, ← outCut_set L]
  iintro ⟨#Hlv, -, ⟨Hi, Hx, Ho⟩, ⟨⟨%fl, Hl⟩, ⟨%fr, Hr⟩, Hbufs⟩, ⟨HsI, HsG, HsO, Hsems⟩, HO⟩
  ihave Hmw := (show levAts (Launch (F := F)).L (Launch (F := F)).lev ⊢ Transfers.MayWaits (here d L) (default : HIx 1) O from
    (Launch (F := F)).mayWaits_none (thr := here d L) hO) $$ Hlv
  ihave Hi' := (Entails.of_eq (show (iLoc d ↦[(idxCut L).view.set]{fullShare} m (iLoc d) : sProp 𝕄)
    = (idxCut L).view.loc (here d L) ↦[(idxCut L).view.set]{fullShare} m (iLoc d) from rfl)) $$ Hi
  ihave Ho' := (Entails.of_eq (show (oLoc d ↦[(outCut L).view.set]{fullShare} m (oLoc d) : sProp 𝕄)
    = (outCut L).view.loc (here d L) ↦[(outCut L).view.set]{fullShare} m (oLoc d) from rfl)) $$ Ho
  ihave Hl' := (Entails.of_eq (show ((here d L).loc cc0_scratch0 ↦{fullShare} fl : sProp 𝕄)
    = listRef.view.loc (here d L) ↦{fullShare} fl from rfl)) $$ Hl
  ihave Hr' := (Entails.of_eq (show ((here d L).loc cc0_scratch1 ↦{fullShare} fr : sProp 𝕄)
    = rowsRef.view.loc (here d L) ↦{fullShare} fr from rfl)) $$ Hr
  sl_exec
  -- the gather: a share of the table, the buffer for its rows, the list of indices, the cell at zero
  ihave Hcut := (pointsTo_split_subset (q := share (num L)) (f := m (xLoc d)) (S := Finset.univ) (Finset.subset_univ tabCut.view.set)).1 $$ Hx
  icases Hcut with ⟨Hx, Hxrest⟩
  have hrset : rowsRef.view.set = Finset.univ := View.set_whole _
  have hlset : listRef.view.set = Finset.univ := View.set_whole _
  have hcred : ∀ h : S1000x128.Gathers 0 S32x128, ∑ j, (rowsRef.slice (S32x128.rowRect h.axis' j) (S32x128.stride_rowRect h.axis' j)).view.dmaCredit
      = rowsRef.view.dmaCredit := by decide
  rw [← hrset, ← hlset]
  iapply (SparseCore.wp_indirectGatherLocal countersEmb NoVar (here d L) none (hg := gathers_S1000x128_S32x128) (default : HIx 1)
      rowsRef.view.dmaCredit (hcred _) (by decide) (list_in m d L hin fl)) $$ [Hx Hr' Hl' HsG]
  · isplitl [Hx]; · iexact Hx
    isplitl [Hr']; · iexact Hr'
    isplitl [Hl']; · iexact Hl'
    iexact HsG
  iintro Hfl
  sl_exec
  -- its wait: the gathered rows are in the buffer, the table's share and the list are back
  iapply (Transfers.wp_waitLocalO countersEmb NoVar (here d L) none (default : HIx 1) (rfl : rowsRef.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hx, Hl'⟩, HsG, HO⟩
  ihave Hx' := (pointsTo_split_subset (q := share (num L)) (f := m (xLoc d)) (S := Finset.univ) (Finset.subset_univ tabCut.view.set)).2 $$ [Hx Hxrest]
  · isplitl [Hx] <;> iassumption
  rw [hrset, hlset]
  sl_exec
  sl_step
  isplitl [Hi' Hx' Ho']
  · isplitl [Hi']; · iexact Hi'
    isplitl [Hx']; · iexact Hx'
    rw [outCut_set L]
    iapply (Entails.of_eq (landed m d L (m (oLoc d)) (task_run.sl.dma0_1 m d L hin fl fr) fun z => ?_)) $$ Ho'
    exact sent m d L hin fl fr z
  isplitl [Hl' Hr' Hbufs]
  · isplitl [Hl']; · iexists _; iexact Hl'
    isplitl [Hr']; · iexists _; iexact Hr'
    iexact Hbufs
  isplitl [HsI HsG HsO Hsems]
  · isplitl [HsI]; · iexact HsI
    isplitl [HsG]; · iexact HsG
    isplitl [HsO]; · iexact HsO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.GatherIdeal.Rows

end
-- ==== Proof.GatherRun.lean ====
/-
  The SparseCore gather run whole: the tasks' parts are handed out from the arrays and put together again, the result
  holding the rows the indices name.
-/
module

public import proofs.«01_k».proof.Defs
public import proofs.«01_k».proof.Proof.GatherTask
public import proofs.«01_k».proof.Proof.Gen.Gather
public import proofs.«01_k».proof.Proof.Gen.Pre_in_table
public import Idealize.ShloMosaic.Lib.ReduceAll

@[expose] public section

noncomputable section

namespace Cert.GatherIdeal.Rows

open Cert.GatherIdeal Cert.GatherIdeal.Gen
open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ Ghost ℕ

variable (m : (ℓ : Loc nD τ sig) → Buf (Elt F) ℓ) (ρ : Dev nD → PrngReg)

/-! ## What is handed over -/

/-- A SparseCore takes its sixteen tasks' parts, each task its own; the result's blocks come back holding the rows named. -/
def pay : (Launch (F := F)).Pay (nD := nD) (Val := Elt F) (Name := ℕ) (U := Ghost) where
  st := fun q d c => match q with
    | 0 => bigSep Finset.univ fun i : Fin 16 => part m d (task c i) (m (oLoc d))
  dn := fun q d c => match q with
    | 0 => bigSep Finset.univ fun i : Fin 16 => part m d (task c i) (picked m d)
  go := fun q d c i => match q with
    | 0 => part m d (task c i) (m (oLoc d))
  td := fun q d c i => match q with
    | 0 => part m d (task c i) (picked m d)
  x := fun _ _ => iprop(emp)

instance pay_storable : (pay (F := F) m).IsStorable where
  st q d c := match q with
    | 0 => (inferInstance : BI.Storable (upEmb : UEmb _ 𝕄) (bigSep Finset.univ fun i : Fin 16 => part m d (task c i) (m (oLoc d))))
  dn q d c := match q with
    | 0 => (inferInstance : BI.Storable (upEmb : UEmb _ 𝕄) (bigSep Finset.univ fun i : Fin 16 => part m d (task c i) (picked m d)))
  go q d c i := match q with
    | 0 => (inferInstance : BI.Storable (upEmb : UEmb _ 𝕄) (part m d (task c i) (m (oLoc d))))
  td q d c i := match q with
    | 0 => (inferInstance : BI.Storable (upEmb : UEmb _ 𝕄) (part m d (task c i) (picked m d)))

/-- What a SparseCore takes is its tasks' parts already, and what they bring back is what it brings back. -/
theorem hand_out : (Launch (F := F)).VecSplit' (pay m) 0 := by
  intro d c
  show (bigSep Finset.univ fun i : Fin 16 => part m d (task c i) (m (oLoc d))) ⊢ |={Set.univ}=> iprop(
      (bigSep Finset.univ fun i : Fin 16 => part m d (task c i) (m (oLoc d)))
      ∗ ((bigSep Finset.univ fun i : Fin 16 => part m d (task c i) (picked m d))
          -∗ bigSep Finset.univ fun i : Fin 16 => part m d (task c i) (picked m d)))
  iintro H
  imodintro
  isplitl [H]; · iexact H
  iintro H
  iexact H

/-! ## The tasks, as the launch runs them -/

/-- The coordinates of subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- What the launch runs on a subcore is the task at its coordinates. -/
theorem body_eq (c : Fin τ.nSC) (s : Fin τ.nSub) :
    defs₀ (F := F) (.scVector c s) 0 ()
      = SparseCore.onTile hcore0 hsub0 (fun c s => cc0__sc_gather (coords c s) idxRef (Memref.isWhole_whole _) tabRef (Memref.isWhole_whole _)
          outRef (Memref.isWhole_whole _) listRef (Memref.isWhole_whole _) rowsRef (Memref.isWhole_whole _) cc0_scratch2 cc0_scoped0 cc0_scoped1) ⟨⟩ c s := rfl

omit [FloatOps F] in
/-- The waits a task records are among those the launch allows. -/
theorem waits_allowed {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %U, %hU, HO⟩
  isplitl [HA]; · iexact HA
  isplitl [HB]; · iexact HB
  isplitl [HC]; · iexact HC
  iexists U
  isplitr
  · ipureintro; exact fun p hp => (hU p hp).elim Or.inl fun h => Or.inr (Or.inl h)
  · iexact HO

set_option maxRecDepth 16384 in
theorem tasks_run (hF : (Launch (F := F)).Facts) (hin : InTable m) : (Launch (F := F)).TileObl (Table (F := F)) Var (pay m) start 0 := by
  intro d c i O W hO _ _
  simp only [show (pay m).ox = fun _ _ => 0 from rfl, add_zero]
  have hci : ((Launch (F := F)).core 0 c).val < grid0.bound 0 ∧ ((Launch (F := F)).sub 0 i).val < grid0.bound 1 := ⟨c.isLt, i.isLt⟩
  change _ ⊢ wp _ _ _ (Pipeline.liftProg (defs₀ (F := F) (.scVector ((Launch (F := F)).core 0 c) ((Launch (F := F)).sub 0 i)) 0 ())) _
  refine BI.Entails.trans ?_ (Pipeline.wp_liftProg (Table (F := F)) (Pipeline.defs_kernel pcfgs defs₀) NoVar _ Set.univ none _ _)
  rw [body_eq]
  simp only [SparseCore.onTile, hci, and_self, ↓reduceDIte]
  exact (task_run m d (coords ⟨_, hci.1⟩ ⟨_, hci.2⟩) hF hin O W hO).trans (wp_mono frame _ _ fun _ => waits_allowed)

/-! ## The program -/

/-- The launch's ghost state. -/
def ghost₀ : Ghost := (initOf (Launch (F := F)).hsCells (Launch (F := F)).hsToks, 1)

theorem ghost_split : (ownU (ghost₀ (F := F)) : sProp 𝕄)
    ⊢ |={Set.univ}=> iprop(BI.own (handEmb (initOf (Launch (F := F)).hsCells (Launch (F := F)).hsToks)) ∗ (bigSep Finset.univ fun _ : Dev nD => iprop(emp))
        ∗ bigSep Finset.univ fun thr : Thread nD τ => bigSep Finset.univ fun q : Fin 1 => (pay m).x q thr) := by
  have hx : (bigSep Finset.univ fun thr : Thread nD τ => bigSep Finset.univ fun q : Fin 1 => (pay (F := F) m).x q thr) = (iprop(emp) : sProp 𝕄) :=
    (bigSep_congr fun _ _ => bigSep_univ_of_subsingleton (0 : Fin 1)).trans (bigSep_emp_const _)
  have hd : (bigSep Finset.univ fun _ : Dev nD => iprop(emp)) = (iprop(emp) : sProp 𝕄) := bigSep_emp_const _
  rw [hx, hd]
  unfold ghost₀
  iintro Hu
  ihave H := (ownU_pair (initOf (Launch (F := F)).hsCells (Launch (F := F)).hsToks) (1 : Counters)) $$ Hu
  icases H with ⟨HH, -⟩
  imodintro
  isplitl [HH]; · iexact HH
  isplitr <;> iempintro

omit [FloatOps F] in
/-- The program's arrays, from all its buffers. -/
theorem arrays (d : Dev nD) (f : (b : Ref sig .tc) → Buf (Elt F) ((d.tc : Thread nD τ).loc b)) :
    (unscopedBufs d f : sProp 𝕄) = iprop((iLoc d ↦{fullShare} f main_arg0) ∗ (xLoc d ↦{fullShare} f main_arg1) ∗ oLoc d ↦{fullShare} f main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The one call, from the arrays whole to the arrays whole, the result holding the rows named. -/
theorem main_run (κ : GSem nD τ sig → ℕ) (d : Dev nD) :
    iprop((Launch (F := F)).ctx handEmb (pay m) κ ∗ (Launch (F := F)).tcSt handEmb d 0 ∗ (Launch (F := F)).tcRes m ρ d ∗ emp)
      ⊢ wp frame (wpE ((Launch (F := F)).defs (Table (F := F))) Var (SparseCore.T d) none) Set.univ (main d)
          fun _ => iprop((Launch (F := F)).tcSt handEmb d 1 ∗ whole m d (picked m d) ∗ (Launch (F := F)).tcEnd d) := by
  unfold SparseCore.Cfg.tcRes SparseCore.Cfg.tcEnd
  rw [arrays]
  simp only [main, wp_bind, wp_pure]
  iintro ⟨#Hctx, Hst, ⟨Hb, ⟨Hi, Hx, Ho⟩, Hts, -⟩, -⟩
  iapply ((Launch (F := F)).wp_run (Table (F := F)) Var (EH := handEmb) (P := pay m) κ d 0) $$ [Hst Hi Hx Ho Hb Hts]
  isplitr; · iexact Hctx
  isplitl [Hst]; · iexact Hst
  isplitl [Hi Hx Ho]
  · iapply (Entails.of_eq (whole_parts m d (m (oLoc d))))
    unfold whole
    isplitl [Hi]; · iexact Hi
    isplitl [Hx]; · iexact Hx
    iexact Ho
  iintro ⟨Hst, Hdn⟩
  imodintro
  isplitl [Hst]; · iexact Hst
  isplitl [Hdn]
  · iapply (Entails.of_eq (whole_parts m d (picked m d)).symm); iexact Hdn
  isplitl [Hb] <;> iassumption

/-- What the memory holds at the end. -/
def Ends (d : Dev nD) (s : Phys nD τ sig (Elt F)) : Prop :=
  s.mem.mem (oLoc d) = picked m d ∧ s.mem.mem (iLoc d) = m (iLoc d) ∧ s.mem.mem (xLoc d) = m (xLoc d)

set_option maxRecDepth 16384 in
theorem ends (d : Dev nD) (s : Phys nD τ sig (Elt F)) : iprop(whole m d (picked m d) ∗ SI s) ⊢ (⌜Ends m d s⌝ : sProp 𝕄) := by
  unfold whole
  iintro ⟨⟨Hi, Hx, Ho⟩, HSI⟩
  ihave H := (persistent_entails_right (SI_pointsTo_agree (st := s) (ℓ := iLoc d) (I := Finset.univ) (q := fullShare) (f := m (iLoc d)))) $$ [HSI Hi]
  · isplitl [HSI] <;> iassumption
  icases H with ⟨%hi, HSI, -⟩
  ihave H := (persistent_entails_right (SI_pointsTo_agree (st := s) (ℓ := xLoc d) (I := Finset.univ) (q := fullShare) (f := m (xLoc d)))) $$ [HSI Hx]
  · isplitl [HSI] <;> iassumption
  icases H with ⟨%hx, HSI, -⟩
  ihave H := (SI_pointsTo_agree (st := s) (ℓ := oLoc d) (I := Finset.univ) (q := fullShare) (f := picked m d)) $$ [HSI Ho]
  · isplitl [HSI] <;> iassumption
  icases H with %ho
  ipureintro
  exact ⟨funext fun y => ho y (Finset.mem_univ y), funext fun y => hi y (Finset.mem_univ y), funext fun y => hx y (Finset.mem_univ y)⟩

/-- The program runs, its result the rows of the table its indices name, its arguments unchanged and every semaphore at zero. -/
theorem run [∀ e, Nonempty (Elt F e)] (hin : InTable m) :
    θ_run (Cert.GatherIdeal.defs (F := F)) (Cert.GatherIdeal.threads (F := F)) ⟨m, fun _ => 0, ρ⟩ (fun r =>
      (∀ c : Dev nD, r.2.mem (oLoc c) = picked m c ∧ r.2.mem (iLoc c) = m (iLoc c) ∧ r.2.mem (xLoc c) = m (xLoc c)) ∧ r.2.sem = fun _ => 0) :=
  SparseCore.Cfg.θ_run_sc_quiescent (K := Launch (F := F)) (D := Table (F := F)) (𝒱 := Var) (EH := handEmb) (P := pay m) (A := ∅) launch_facts start
    (fun q hq => match q with | 0 => nomatch hq)
    (fun q _ => match q with | 0 => tasks_run m launch_facts hin)
    (fun q _ => match q with | 0 => SparseCore.Cfg.VecSplit.of_plain (hand_out m))
    m ρ main (fun _ => iprop(emp)) (fun d => whole m d (picked m d)) (ghost₀ (F := F)) (sep_elim_left.trans (ghost_split m)) (main_run m ρ) (Ends m) (ends m)
    _ (fun _ h hz => ⟨h, hz⟩)

/-! ## The frames -/

/-- A word that is, signed, at least zero and below a thousand is below a thousand. -/
theorem word_in (v : BitVec 32) (h : IntOp.andi (IntOp.cmpi .sge v 0#32) (IntOp.cmpi .slt v 1000#32) = 1#1) : v.toNat < 1000 := by
  have both : ∀ p q : Bool, IntOp.andi (BitVec.ofBool p) (BitVec.ofBool q) = 1#1 → p = true ∧ q = true := by decide
  obtain ⟨h0, h1⟩ := both ((0#32).sle v) (v.slt 1000#32) h
  rw [BitVec.sle_eq_decide, decide_eq_true_eq, BitVec.toInt_eq_toNat_cond v] at h0
  rw [BitVec.slt_eq_decide, decide_eq_true_eq, BitVec.toInt_eq_toNat_cond v] at h1
  have z0 : (0#32 : BitVec 32).toInt = 0 := by decide
  have z1 : (1000#32 : BitVec 32).toInt = 1000 := by decide
  have hv := v.isLt
  rw [z0] at h0
  rw [z1] at h1
  split at h0 <;> omega

/-- The precondition says that every index names a row of the table. -/
theorem in_of_pre (i : IVec Cert.Pre_in_table.S1024 32) (t : FVec F Cert.Pre_in_table.S1000x128 .f32)
    (h : Cert.Pre_in_table.fn i t = fun _ => 1#1) (j : S1024.Idx) : (i j).toNat < 1000 := by
  have e := congrFun h (fun a => a.elim0)
  unfold Cert.Pre_in_table.fn at e
  haveI : Subsingleton Cert.Pre_in_table.S_.Idx := ⟨fun _ _ => funext fun a => a.elim0⟩
  exact word_in _ (Host.reduce_andi_all _ _ _ _ _ e j)

end Cert.GatherIdeal.Rows

end
-- ==== Proof.TakeValue.lean ====
/-
  The gather's reference run to its result, and its result as the rows of the table that the indices name.
-/
module

public import proofs.«01_k».proof.Defs
public import proofs.«01_k».proof.Proof.RefRow
public import proofs.«01_k».proof.Proof.Gen.TakeIdeal
public import proofs.«01_k».proof.Proof.Gen.Pre_in_table
public import Idealize.ShloMosaic.Lib.Claim
public import Idealize.ShloMosaic.Lib.Quiescent

@[expose] public section

set_option maxRecDepth 16384

noncomputable section

namespace Cert.TakeIdeal.Value

open Cert.TakeIdeal Cert.TakeIdeal.Gen
open Idealize.ShloMosaic Idealize.ShloMosaic.TcCoe Idealize.SL.Sem
open Cert.ReferenceIdeal.Value (take rows take_at rows_at)

variable (m : (ℓ : Loc nD τ sig) → Buf (Elt Ideal) ℓ) (ρ : Dev nD → PrngReg)

/-- It runs, ends with the rows taken from the table at the indices, and leaves its arguments unchanged. -/
theorem run : θ_run (defs (F := Ideal)) (onTc (τ := τ) (main (F := Ideal))) ⟨m, fun _ => 0, ρ⟩ fun r => ∀ c : Dev nD,
      r.2.mem ((c.tc : Thread nD τ).loc main_v0) = take (m ((c.tc : Thread nD τ).loc main_arg1)) (rows (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  simp -implicitDefEqProofs only [StableHlo.TRef.toBuf, StableHlo.TRef.ofBuf, cast_cast, cast_eq]
  rfl

/-- Its frame: it runs, its arguments end unchanged, and it has no semaphore. -/
theorem frame : Cert.quiescent_TakeIdeal := fun m ρ _ =>
  θ_run_mono (run m ρ) fun r h => ⟨fun c => (h c).2, sem_eq_zero_of_no_sems (by decide) r.2⟩

/-- The same, read where the indices lie inside the table. -/
theorem frame_in_table : Cert.quiescent_TakeIdeal_pre_in_table := fun m ρ _ =>
  θ_run_mono (run m ρ) fun r h => ⟨fun c => (h c).2, sem_eq_zero_of_no_sems (by decide) r.2⟩

/-- Where every index lies inside the table, row `r` taken is the row of the table that index `r` names. -/
theorem taken_at (T : FVec Ideal S1000x128 .f32) (b : IVec S1024 32) (h : ∀ r : Fin 1024, (b (ix1 r)).toNat < 1000) (r : Fin 1024) (j : Fin 128)
    (n : Fin 1000) (hn : n.val = (b (ix1 r)).toNat) : take T (rows b) (ix2 r j) = T (ix2 n j) := by
  have word : ∀ (r : Fin 1024) (n : Fin 1000), n.val = (b (ix1 r)).toNat → b (ix1 r) = BitVec.ofNat 32 n.val := fun r n e => by
    rw [e, BitVec.ofNat_toNat, BitVec.setWidth_eq]
  exact take_at T _ (fun r z => ⟨⟨_, h r⟩, rows_at b r z _ (word r _ rfl)⟩) r j n (rows_at b r 0 n (word r n hn))

end Cert.TakeIdeal.Value

end
-- ==== Proof.GatherEqual.lean ====
/-
  The gather's claims: it runs on words and over the extended reals, and its result is its reference's.
-/
module

public import proofs.«01_k».proof.Proof.GatherRun
public import proofs.«01_k».proof.Proof.TakeValue

@[expose] public section

set_option maxRecDepth 16384

noncomputable section

namespace Cert.GatherIdeal.Rows

open Cert.GatherIdeal Cert.GatherIdeal.Gen
open Idealize.ShloMosaic Idealize.SL.Sem

/-- On words, within the table: the gather runs, its arguments end unchanged, and its semaphores end at zero. -/
theorem frame_words : Cert.quiescent_Gather (hGather := Cert.Gather.Gen.facts) (hPre_in_table := Cert.Pre_in_table.Gen.facts) := fun m ρ h =>
  θ_run_mono (run (F := Bits) m ρ fun d j => in_of_pre _ _ (h d) j) fun _ e => ⟨fun c => (e.1 c).2, e.2⟩

/-- The same over the extended reals. -/
theorem frame_exact : Cert.quiescent_GatherIdeal (hGatherIdeal := Cert.GatherIdeal.Gen.facts) (hPre_in_table := Cert.Pre_in_table.Gen.facts) := fun m ρ h =>
  θ_run_mono (run (F := Ideal) m ρ fun d j => in_of_pre _ _ (h d) j) fun _ e => ⟨fun c => (e.1 c).2, e.2⟩

/-- The rows named are the rows the reference takes. -/
theorem picked_eq (m : (ℓ : Loc nD τ sig) → Buf (Elt Ideal) ℓ) (hin : InTable m) (d : Dev nD) :
    Cert.ReferenceIdeal.Value.take (m (xLoc d)) (Cert.ReferenceIdeal.Value.rows (m (iLoc d))) = picked m d := by
  funext y
  have hy : y = ix2 (y 0) (y 1) := by
    funext a
    match a with
    | ⟨0, _⟩ => rfl
    | ⟨1, _⟩ => rfl
  rw [hy]
  exact Cert.TakeIdeal.Value.taken_at _ _ (fun r => hin d (ix1 r)) (y 0) (y 1) (rowOf m d (y 0)) (Nat.mod_eq_of_lt (hin d (ix1 (y 0))))

/-- From equal arguments within the table, the gather and its reference end with the same result. -/
theorem algebraic : Cert.algebraic_GatherIdeal_TakeIdeal (hGatherIdeal := Cert.GatherIdeal.Gen.facts) (hTakeIdeal := Cert.TakeIdeal.Gen.facts)
    (hPre_in_table := Cert.Pre_in_table.Gen.facts) := fun m g m' g' hp heq => by
  have hin : InTable m := fun d j => in_of_pre _ _ (hp d) j
  refine ⟨picked m, θ_run_mono (run m g hin) fun _ e => e.1, θ_run_mono (Cert.TakeIdeal.Value.run m' g') fun _ e c => ⟨(e c).1.trans ?_, (e c).2⟩⟩
  rw [(heq c).1, (heq c).2]
  exact picked_eq m hin c

end Cert.GatherIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equal
public import proofs.«01_k».proof.Proof.Gen.Gather
public import proofs.«01_k».proof.Proof.Gen.GatherIdeal
public import proofs.«01_k».proof.Proof.Gen.GatherIdeal.Skeleton
public import proofs.«01_k».proof.Proof.Gen.TakeIdeal
public import proofs.«01_k».proof.Proof.Gen.Pre_in_table
public import proofs.«01_k».proof.Proof.GatherEqual
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- From equal arguments, the kernel over the extended reals and the reference end with the same result. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    exact (Cert.KernelIdeal.Value.final_eq m c).symm

/-- All the claims of the certificate: the kernel's, then the SparseCore gather's. -/
theorem claim : Cert.Claim := ⟨Cert.Kernel.Gen.facts, Cert.KernelIdeal.Gen.facts, Cert.ReferenceIdeal.Gen.facts,
  Cert.Gather.Gen.facts, Cert.GatherIdeal.Gen.facts, Cert.TakeIdeal.Gen.facts, Cert.Pre_in_table.Gen.facts,
  fun m ρ _ => Cert.Kernel.Gen.frame m ρ, fun m ρ _ => Cert.KernelIdeal.Gen.frame m ρ, Cert.ReferenceIdeal.Value.frame,
  Cert.GatherIdeal.Rows.frame_words, Cert.GatherIdeal.Rows.frame_exact, Cert.TakeIdeal.Value.frame, Cert.TakeIdeal.Value.frame_in_table,
  trivial, algebraic, trivial, Cert.GatherIdeal.Rows.algebraic⟩

end Cert.Proof

end
